-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_Conf (m : (ℓ : Loc Cert.Conf.nD Cert.Conf.τ Cert.Conf.sig) → Buf (Elt Bits) ℓ) : Prop :=
  True

def Pre_ConfIdeal (m : (ℓ : Loc Cert.ConfIdeal.nD Cert.ConfIdeal.τ Cert.ConfIdeal.sig) → Buf (Elt Ideal) ℓ) : Prop :=
  True

def Pre_ConfReferenceIdeal (m : (ℓ : Loc Cert.ConfReferenceIdeal.nD Cert.ConfReferenceIdeal.τ Cert.ConfReferenceIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdReferenceIdeal (m : (ℓ : Loc Cert.SsdReferenceIdeal.nD Cert.SsdReferenceIdeal.τ Cert.SsdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0))
      ∧ r.2.sem = fun _ => 0)

def quiescent_Conf [hConf : Cert.Conf.Facts] : Prop :=
  ∀ (m : (ℓ : Loc Cert.Conf.nD Cert.Conf.τ Cert.Conf.sig) → Buf (Elt Bits) ℓ) (g : Dev Cert.Conf.nD → PrngReg), Pre_Conf m →
    θ_run (Cert.Conf.defs (F := Bits)) (onTc (τ := Cert.Conf.τ) (Cert.Conf.main (F := Bits))) ⟨m, fun _ => 0, g⟩ (fun r => (∀ c : Dev Cert.Conf.nD,
      r.2.mem ((c.tc : Thread Cert.Conf.nD Cert.Conf.τ).loc Cert.Conf.main_arg0) = m ((c.tc : Thread Cert.Conf.nD Cert.Conf.τ).loc Cert.Conf.main_arg0)
      ∧ r.2.mem ((c.tc : Thread Cert.Conf.nD Cert.Conf.τ).loc Cert.Conf.main_arg1) = m ((c.tc : Thread Cert.Conf.nD Cert.Conf.τ).loc Cert.Conf.main_arg1)
      ∧ r.2.mem ((c.tc : Thread Cert.Conf.nD Cert.Conf.τ).loc Cert.Conf.main_arg2) = m ((c.tc : Thread Cert.Conf.nD Cert.Conf.τ).loc Cert.Conf.main_arg2)
      ∧ r.2.mem ((c.tc : Thread Cert.Conf.nD Cert.Conf.τ).loc Cert.Conf.main_arg3) = m ((c.tc : Thread Cert.Conf.nD Cert.Conf.τ).loc Cert.Conf.main_arg3)
      ∧ r.2.mem ((c.tc : Thread Cert.Conf.nD Cert.Conf.τ).loc Cert.Conf.main_arg4) = m ((c.tc : Thread Cert.Conf.nD Cert.Conf.τ).loc Cert.Conf.main_arg4)
      ∧ r.2.mem ((c.tc : Thread Cert.Conf.nD Cert.Conf.τ).loc Cert.Conf.main_arg5) = m ((c.tc : Thread Cert.Conf.nD Cert.Conf.τ).loc Cert.Conf.main_arg5))
      ∧ r.2.sem = fun _ => 0)

def quiescent_ConfIdeal [hConfIdeal : Cert.ConfIdeal.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
      ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
      ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
      ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5))
      ∧ r.2.sem = fun _ => 0)

def quiescent_ConfReferenceIdeal [hConfReferenceIdeal : Cert.ConfReferenceIdeal.Facts] : Prop :=
  ∀ (m : (ℓ : Loc Cert.ConfReferenceIdeal.nD Cert.ConfReferenceIdeal.τ Cert.ConfReferenceIdeal.sig) → Buf (Elt Ideal) ℓ) (g : Dev Cert.ConfReferenceIdeal.nD → PrngReg), Pre_ConfReferenceIdeal m →
    θ_run (Cert.ConfReferenceIdeal.defs (F := Ideal)) (onTc (τ := Cert.ConfReferenceIdeal.τ) (Cert.ConfReferenceIdeal.main (F := Ideal))) ⟨m, fun _ => 0, g⟩ (fun r => (∀ c : Dev Cert.ConfReferenceIdeal.nD,
      r.2.mem ((c.tc : Thread Cert.ConfReferenceIdeal.nD Cert.ConfReferenceIdeal.τ).loc Cert.ConfReferenceIdeal.main_arg0) = m ((c.tc : Thread Cert.ConfReferenceIdeal.nD Cert.ConfReferenceIdeal.τ).loc Cert.ConfReferenceIdeal.main_arg0)
      ∧ r.2.mem ((c.tc : Thread Cert.ConfReferenceIdeal.nD Cert.ConfReferenceIdeal.τ).loc Cert.ConfReferenceIdeal.main_arg1) = m ((c.tc : Thread Cert.ConfReferenceIdeal.nD Cert.ConfReferenceIdeal.τ).loc Cert.ConfReferenceIdeal.main_arg1)
      ∧ r.2.mem ((c.tc : Thread Cert.ConfReferenceIdeal.nD Cert.ConfReferenceIdeal.τ).loc Cert.ConfReferenceIdeal.main_arg2) = m ((c.tc : Thread Cert.ConfReferenceIdeal.nD Cert.ConfReferenceIdeal.τ).loc Cert.ConfReferenceIdeal.main_arg2)
      ∧ r.2.mem ((c.tc : Thread Cert.ConfReferenceIdeal.nD Cert.ConfReferenceIdeal.τ).loc Cert.ConfReferenceIdeal.main_arg3) = m ((c.tc : Thread Cert.ConfReferenceIdeal.nD Cert.ConfReferenceIdeal.τ).loc Cert.ConfReferenceIdeal.main_arg3)
      ∧ r.2.mem ((c.tc : Thread Cert.ConfReferenceIdeal.nD Cert.ConfReferenceIdeal.τ).loc Cert.ConfReferenceIdeal.main_arg4) = m ((c.tc : Thread Cert.ConfReferenceIdeal.nD Cert.ConfReferenceIdeal.τ).loc Cert.ConfReferenceIdeal.main_arg4)
      ∧ r.2.mem ((c.tc : Thread Cert.ConfReferenceIdeal.nD Cert.ConfReferenceIdeal.τ).loc Cert.ConfReferenceIdeal.main_arg5) = m ((c.tc : Thread Cert.ConfReferenceIdeal.nD Cert.ConfReferenceIdeal.τ).loc Cert.ConfReferenceIdeal.main_arg5))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5)
      ∧ r.2.mem ((c.tc : Thread Cert.SsdReferenceIdeal.nD Cert.SsdReferenceIdeal.τ).loc Cert.SsdReferenceIdeal.main_arg6) = m ((c.tc : Thread Cert.SsdReferenceIdeal.nD Cert.SsdReferenceIdeal.τ).loc Cert.SsdReferenceIdeal.main_arg6)
      ∧ r.2.mem ((c.tc : Thread Cert.SsdReferenceIdeal.nD Cert.SsdReferenceIdeal.τ).loc Cert.SsdReferenceIdeal.main_arg7) = m ((c.tc : Thread Cert.SsdReferenceIdeal.nD Cert.SsdReferenceIdeal.τ).loc Cert.SsdReferenceIdeal.main_arg7)
      ∧ r.2.mem ((c.tc : Thread Cert.SsdReferenceIdeal.nD Cert.SsdReferenceIdeal.τ).loc Cert.SsdReferenceIdeal.main_arg8) = m ((c.tc : Thread Cert.SsdReferenceIdeal.nD Cert.SsdReferenceIdeal.τ).loc Cert.SsdReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v5) = v0 c
          ∧ r.2.mem ((c.tc : Thread Cert.InProjReferenceIdeal.nD Cert.InProjReferenceIdeal.τ).loc Cert.InProjReferenceIdeal.main_v6) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v53) = v0 c
          ∧ r.2.mem ((c.tc : Thread Cert.MergeReferenceIdeal.nD Cert.MergeReferenceIdeal.τ).loc Cert.MergeReferenceIdeal.main_v63) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v19_0)) (v1 : (c : Dev Cert.RopeIdeal.nD) → Buf (Elt Ideal) ((c.tc : Thread Cert.RopeIdeal.nD Cert.RopeIdeal.τ).loc Cert.RopeIdeal.main_v19_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v19_0) = v0 c
          ∧ r.2.mem ((c.tc : Thread Cert.RopeIdeal.nD Cert.RopeIdeal.τ).loc Cert.RopeIdeal.main_v19_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v16) = v0 c
          ∧ r.2.mem ((c.tc : Thread Cert.RopeReferenceIdeal.nD Cert.RopeReferenceIdeal.τ).loc Cert.RopeReferenceIdeal.main_v19) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0))

def preserves_Conf_ConfIdeal : Prop :=
  True

def algebraic_ConfIdeal_ConfReferenceIdeal [hConfIdeal : Cert.ConfIdeal.Facts] [hConfReferenceIdeal : Cert.ConfReferenceIdeal.Facts] : Prop :=
  ∀ (m : (ℓ : Loc Cert.ConfIdeal.nD Cert.ConfIdeal.τ Cert.ConfIdeal.sig) → Buf (Elt Ideal) ℓ) (g : Dev Cert.ConfIdeal.nD → PrngReg)
    (m' : (ℓ : Loc Cert.ConfReferenceIdeal.nD Cert.ConfReferenceIdeal.τ Cert.ConfReferenceIdeal.sig) → Buf (Elt Ideal) ℓ) (g' : Dev Cert.ConfReferenceIdeal.nD → PrngReg), Pre_ConfIdeal m →
    (∀ c : Dev Cert.ConfIdeal.nD,
      m' ((c.tc : Thread Cert.ConfReferenceIdeal.nD Cert.ConfReferenceIdeal.τ).loc Cert.ConfReferenceIdeal.main_arg0) = m ((c.tc : Thread Cert.ConfIdeal.nD Cert.ConfIdeal.τ).loc Cert.ConfIdeal.main_arg0)
      ∧ m' ((c.tc : Thread Cert.ConfReferenceIdeal.nD Cert.ConfReferenceIdeal.τ).loc Cert.ConfReferenceIdeal.main_arg1) = m ((c.tc : Thread Cert.ConfIdeal.nD Cert.ConfIdeal.τ).loc Cert.ConfIdeal.main_arg1)
      ∧ m' ((c.tc : Thread Cert.ConfReferenceIdeal.nD Cert.ConfReferenceIdeal.τ).loc Cert.ConfReferenceIdeal.main_arg2) = m ((c.tc : Thread Cert.ConfIdeal.nD Cert.ConfIdeal.τ).loc Cert.ConfIdeal.main_arg2)
      ∧ m' ((c.tc : Thread Cert.ConfReferenceIdeal.nD Cert.ConfReferenceIdeal.τ).loc Cert.ConfReferenceIdeal.main_arg3) = m ((c.tc : Thread Cert.ConfIdeal.nD Cert.ConfIdeal.τ).loc Cert.ConfIdeal.main_arg3)
      ∧ m' ((c.tc : Thread Cert.ConfReferenceIdeal.nD Cert.ConfReferenceIdeal.τ).loc Cert.ConfReferenceIdeal.main_arg4) = m ((c.tc : Thread Cert.ConfIdeal.nD Cert.ConfIdeal.τ).loc Cert.ConfIdeal.main_arg4)
      ∧ m' ((c.tc : Thread Cert.ConfReferenceIdeal.nD Cert.ConfReferenceIdeal.τ).loc Cert.ConfReferenceIdeal.main_arg5) = m ((c.tc : Thread Cert.ConfIdeal.nD Cert.ConfIdeal.τ).loc Cert.ConfIdeal.main_arg5)) →
    ∃ (v0 : (c : Dev Cert.ConfIdeal.nD) → Buf (Elt Ideal) ((c.tc : Thread Cert.ConfIdeal.nD Cert.ConfIdeal.τ).loc Cert.ConfIdeal.main_v5)),
      θ_run (Cert.ConfIdeal.defs (F := Ideal)) (onTc (τ := Cert.ConfIdeal.τ) (Cert.ConfIdeal.main (F := Ideal))) ⟨m, fun _ => 0, g⟩ (fun r => ∀ c : Dev Cert.ConfIdeal.nD,
          r.2.mem ((c.tc : Thread Cert.ConfIdeal.nD Cert.ConfIdeal.τ).loc Cert.ConfIdeal.main_v5) = v0 c
          ∧ r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
          ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
          ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
          ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
          ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
          ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5))
      ∧ θ_run (Cert.ConfReferenceIdeal.defs (F := Ideal)) (onTc (τ := Cert.ConfReferenceIdeal.τ) (Cert.ConfReferenceIdeal.main (F := Ideal))) ⟨m', fun _ => 0, g'⟩ (fun r => ∀ c : Dev Cert.ConfReferenceIdeal.nD,
          r.2.mem ((c.tc : Thread Cert.ConfReferenceIdeal.nD Cert.ConfReferenceIdeal.τ).loc Cert.ConfReferenceIdeal.main_v267) = v0 c
          ∧ r.2.mem ((c.tc : Thread Cert.ConfReferenceIdeal.nD Cert.ConfReferenceIdeal.τ).loc Cert.ConfReferenceIdeal.main_arg0) = m' ((c.tc : Thread Cert.ConfReferenceIdeal.nD Cert.ConfReferenceIdeal.τ).loc Cert.ConfReferenceIdeal.main_arg0)
          ∧ r.2.mem ((c.tc : Thread Cert.ConfReferenceIdeal.nD Cert.ConfReferenceIdeal.τ).loc Cert.ConfReferenceIdeal.main_arg1) = m' ((c.tc : Thread Cert.ConfReferenceIdeal.nD Cert.ConfReferenceIdeal.τ).loc Cert.ConfReferenceIdeal.main_arg1)
          ∧ r.2.mem ((c.tc : Thread Cert.ConfReferenceIdeal.nD Cert.ConfReferenceIdeal.τ).loc Cert.ConfReferenceIdeal.main_arg2) = m' ((c.tc : Thread Cert.ConfReferenceIdeal.nD Cert.ConfReferenceIdeal.τ).loc Cert.ConfReferenceIdeal.main_arg2)
          ∧ r.2.mem ((c.tc : Thread Cert.ConfReferenceIdeal.nD Cert.ConfReferenceIdeal.τ).loc Cert.ConfReferenceIdeal.main_arg3) = m' ((c.tc : Thread Cert.ConfReferenceIdeal.nD Cert.ConfReferenceIdeal.τ).loc Cert.ConfReferenceIdeal.main_arg3)
          ∧ r.2.mem ((c.tc : Thread Cert.ConfReferenceIdeal.nD Cert.ConfReferenceIdeal.τ).loc Cert.ConfReferenceIdeal.main_arg4) = m' ((c.tc : Thread Cert.ConfReferenceIdeal.nD Cert.ConfReferenceIdeal.τ).loc Cert.ConfReferenceIdeal.main_arg4)
          ∧ r.2.mem ((c.tc : Thread Cert.ConfReferenceIdeal.nD Cert.ConfReferenceIdeal.τ).loc Cert.ConfReferenceIdeal.main_arg5) = m' ((c.tc : Thread Cert.ConfReferenceIdeal.nD Cert.ConfReferenceIdeal.τ).loc Cert.ConfReferenceIdeal.main_arg5))

def preserves_Ssd_SsdIdeal : Prop :=
  True

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hRope : Cert.Rope.Facts) (hRopeIdeal : Cert.RopeIdeal.Facts) (hRopeReferenceIdeal : Cert.RopeReferenceIdeal.Facts) (hConf : Cert.Conf.Facts) (hConfIdeal : Cert.ConfIdeal.Facts) (hConfReferenceIdeal : Cert.ConfReferenceIdeal.Facts) (hSsd : Cert.Ssd.Facts) (hSsdIdeal : Cert.SsdIdeal.Facts) (hSsdReferenceIdeal : Cert.SsdReferenceIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Rope (hRope := hRope)
    ∧ quiescent_RopeIdeal (hRopeIdeal := hRopeIdeal)
    ∧ quiescent_RopeReferenceIdeal (hRopeReferenceIdeal := hRopeReferenceIdeal)
    ∧ quiescent_Conf (hConf := hConf)
    ∧ quiescent_ConfIdeal (hConfIdeal := hConfIdeal)
    ∧ quiescent_ConfReferenceIdeal (hConfReferenceIdeal := hConfReferenceIdeal)
    ∧ quiescent_Ssd (hSsd := hSsd)
    ∧ quiescent_SsdIdeal (hSsdIdeal := hSsdIdeal)
    ∧ quiescent_SsdReferenceIdeal (hSsdReferenceIdeal := hSsdReferenceIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
    ∧ preserves_Rope_RopeIdeal
    ∧ algebraic_RopeIdeal_RopeReferenceIdeal (hRopeIdeal := hRopeIdeal) (hRopeReferenceIdeal := hRopeReferenceIdeal)
    ∧ preserves_Conf_ConfIdeal
    ∧ algebraic_ConfIdeal_ConfReferenceIdeal (hConfIdeal := hConfIdeal) (hConfReferenceIdeal := hConfReferenceIdeal)
    ∧ preserves_Ssd_SsdIdeal
-- ==== Kernel.lean ====
abbrev S65536x9728 : Shape := ⟨2, ![65536, 9728]⟩
abbrev S65536x32 : Shape := ⟨2, ![65536, 32]⟩
abbrev S16 : Shape := ⟨1, ![16]⟩
abbrev S1024x1024 : Shape := ⟨2, ![1024, 1024]⟩
abbrev S65536x64 : Shape := ⟨2, ![65536, 64]⟩
abbrev S1x65536x1x64 : Shape := ⟨4, ![1, 65536, 1, 64]⟩
abbrev S1x65536x2x64 : Shape := ⟨4, ![1, 65536, 2, 64]⟩
abbrev S65536x128 : Shape := ⟨2, ![65536, 128]⟩
abbrev S_ : Shape := ⟨0, ![]⟩
abbrev S128 : Shape := ⟨1, ![128]⟩
abbrev S1x128 : Shape := ⟨2, ![1, 128]⟩
abbrev S65536x1024 : Shape := ⟨2, ![65536, 1024]⟩
abbrev S128x1024 : Shape := ⟨2, ![128, 1024]⟩
abbrev S128x256 : Shape := ⟨2, ![128, 256]⟩
abbrev S128x128 : Shape := ⟨2, ![128, 128]⟩
abbrev S256x256 : Shape := ⟨2, ![256, 256]⟩
abbrev S256x128 : Shape := ⟨2, ![256, 128]⟩
abbrev S256x64 : Shape := ⟨2, ![256, 64]⟩
abbrev S128x64 : Shape := ⟨2, ![128, 64]⟩
abbrev S1x1 : Shape := ⟨2, ![1, 1]⟩
abbrev S128x1 : Shape := ⟨2, ![128, 1]⟩

abbrev nBuf : Space → Nat
  | .hbm => 20
  | .vmem => 23
  | .smem => 0
  | _ => 0

abbrev bufTy : (tb : Table) → Fin (tcTables nBuf tb) → BufTy
  | .hbm, ⟨0, _⟩ => ⟨S65536x9728, .bf16⟩
  | .hbm, ⟨1, _⟩ => ⟨S65536x32, .f32⟩
  | .hbm, ⟨2, _⟩ => ⟨S65536x32, .f32⟩
  | .hbm, ⟨3, _⟩ => ⟨S16, .f32⟩
  | .hbm, ⟨4, _⟩ => ⟨S1024x1024, .f32⟩
  | .hbm, ⟨5, _⟩ => ⟨S65536x64, .f32⟩
  | .hbm, ⟨6, _⟩ => ⟨S1x65536x1x64, .f32⟩
  | .hbm, ⟨7, _⟩ => ⟨S1x65536x2x64, .f32⟩
  | .hbm, ⟨8, _⟩ => ⟨S65536x128, .f32⟩
  | .hbm, ⟨9, _⟩ => ⟨S65536x32, .f32⟩
  | .hbm, ⟨10, _⟩ => ⟨S65536x64, .f32⟩
  | .hbm, ⟨11, _⟩ => ⟨S1x65536x1x64, .f32⟩
  | .hbm, ⟨12, _⟩ => ⟨S1x65536x2x64, .f32⟩
  | .hbm, ⟨13, _⟩ => ⟨S65536x128, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1024x1024, .bf16⟩
  | .hbm, ⟨19, _⟩ => ⟨S65536x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1024x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .f32⟩
  | _, _ => ⟨S65536x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c36_i32 : BitVec 32 := 36#32
  let c0_i32 : BitVec 32 := 0#32
  ![v1.toNat, c36_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c36_i32 : BitVec 32 := 36#32
  let c0_i32_0 : BitVec 32 := 0#32
  ![v3.toNat, c36_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c37_i32 : BitVec 32 := 37#32
  let c0_i32 : BitVec 32 := 0#32
  ![v1.toNat, c37_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c37_i32 : BitVec 32 := 37#32
  let c0_i32_0 : BitVec 32 := 0#32
  ![v3.toNat, c37_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S65536x9728 : Shape := ⟨2, ![65536, 9728]⟩
abbrev S65536x32 : Shape := ⟨2, ![65536, 32]⟩
abbrev S16 : Shape := ⟨1, ![16]⟩
abbrev S1024x1024 : Shape := ⟨2, ![1024, 1024]⟩
abbrev S65536x1024 : Shape := ⟨2, ![65536, 1024]⟩
abbrev S65536x256 : Shape := ⟨2, ![65536, 256]⟩
abbrev S32x2048x32 : Shape := ⟨3, ![32, 2048, 32]⟩
abbrev S32x2048x16x64 : Shape := ⟨4, ![32, 2048, 16, 64]⟩
abbrev S32x2048x1x32 : Shape := ⟨4, ![32, 2048, 1, 32]⟩
abbrev S32x2048x16x32 : Shape := ⟨4, ![32, 2048, 16, 32]⟩
abbrev S32x2048x4x64 : Shape := ⟨4, ![32, 2048, 4, 64]⟩
abbrev S32x2048x4x32 : Shape := ⟨4, ![32, 2048, 4, 32]⟩
abbrev S32x16x128x16x64 : Shape := ⟨5, ![32, 16, 128, 16, 64]⟩
abbrev S32x2048x4x4x64 : Shape := ⟨5, ![32, 2048, 4, 4, 64]⟩
abbrev S32x15x128x16x64 : Shape := ⟨5, ![32, 15, 128, 16, 64]⟩
abbrev S_ : Shape := ⟨0, ![]⟩
abbrev S32x16x256x16x64 : Shape := ⟨5, ![32, 16, 256, 16, 64]⟩
abbrev S16x1x1 : Shape := ⟨3, ![16, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S16x1x256 : Shape := ⟨3, ![16, 1, 256]⟩
abbrev S16x128x256 : Shape := ⟨3, ![16, 128, 256]⟩
abbrev S1x1x16x1x1 : Shape := ⟨5, ![1, 1, 16, 1, 1]⟩
abbrev S32x16x16x128x256 : Shape := ⟨5, ![32, 16, 16, 128, 256]⟩
abbrev S1x16x1x128x256 : Shape := ⟨5, ![1, 16, 1, 128, 256]⟩
abbrev S32x16x16x128 : Shape := ⟨4, ![32, 16, 16, 128]⟩
abbrev S32x16x16x128x1 : Shape := ⟨5, ![32, 16, 16, 128, 1]⟩
abbrev S32x16x16x64x128 : Shape := ⟨5, ![32, 16, 16, 64, 128]⟩

abbrev nBuf : Space → Nat
  | .hbm => 128
  | .vmem => 0
  | .smem => 0
  | _ => 0

abbrev bufTy : (tb : Table) → Fin (tcTables nBuf tb) → BufTy
  | .hbm, ⟨0, _⟩ => ⟨S65536x9728, .bf16⟩
  | .hbm, ⟨1, _⟩ => ⟨S65536x32, .f32⟩
  | .hbm, ⟨2, _⟩ => ⟨S65536x32, .f32⟩
  | .hbm, ⟨3, _⟩ => ⟨S16, .f32⟩
  | .hbm, ⟨4, _⟩ => ⟨S1024x1024, .f32⟩
  | .hbm, ⟨5, _⟩ => ⟨S65536x9728, .f32⟩
  | .hbm, ⟨6, _⟩ => ⟨S65536x1024, .f32⟩
  | .hbm, ⟨7, _⟩ => ⟨S65536x256, .f32⟩
  | .hbm, ⟨8, _⟩ => ⟨S65536x256, .f32⟩
  | .hbm, ⟨9, _⟩ => ⟨S32x2048x32, .f32⟩
  | .hbm, ⟨10, _⟩ => ⟨S32x2048x32, .f32⟩
  | .hbm, ⟨11, _⟩ => ⟨S32x2048x16x64, .f32⟩
  | .hbm, ⟨12, _⟩ => ⟨S32x2048x1x32, .f32⟩
  | .hbm, ⟨13, _⟩ => ⟨S32x2048x1x32, .f32⟩
  | .hbm, ⟨14, _⟩ => ⟨S32x2048x16x32, .f32⟩
  | .hbm, ⟨15, _⟩ => ⟨S32x2048x16x32, .f32⟩
  | .hbm, ⟨16, _⟩ => ⟨S32x2048x16x32, .f32⟩
  | .hbm, ⟨17, _⟩ => ⟨S32x2048x16x32, .f32⟩
  | .hbm, ⟨18, _⟩ => ⟨S32x2048x16x32, .f32⟩
  | .hbm, ⟨19, _⟩ => ⟨S32x2048x16x32, .f32⟩
  | .hbm, ⟨20, _⟩ => ⟨S32x2048x16x32, .f32⟩
  | .hbm, ⟨21, _⟩ => ⟨S32x2048x16x32, .f32⟩
  | .hbm, ⟨22, _⟩ => ⟨S32x2048x16x32, .f32⟩
  | .hbm, ⟨23, _⟩ => ⟨S32x2048x16x32, .f32⟩
  | .hbm, ⟨24, _⟩ => ⟨S32x2048x16x32, .f32⟩
  | .hbm, ⟨25, _⟩ => ⟨S32x2048x16x32, .f32⟩
  | .hbm, ⟨26, _⟩ => ⟨S32x2048x16x64, .f32⟩
  | .hbm, ⟨27, _⟩ => ⟨S32x2048x4x64, .f32⟩
  | .hbm, ⟨28, _⟩ => ⟨S32x2048x1x32, .f32⟩
  | .hbm, ⟨29, _⟩ => ⟨S32x2048x1x32, .f32⟩
  | .hbm, ⟨30, _⟩ => ⟨S32x2048x4x32, .f32⟩
  | .hbm, ⟨31, _⟩ => ⟨S32x2048x4x32, .f32⟩
  | .hbm, ⟨32, _⟩ => ⟨S32x2048x4x32, .f32⟩
  | .hbm, ⟨33, _⟩ => ⟨S32x2048x4x32, .f32⟩
  | .hbm, ⟨34, _⟩ => ⟨S32x2048x4x32, .f32⟩
  | .hbm, ⟨35, _⟩ => ⟨S32x2048x4x32, .f32⟩
  | .hbm, ⟨36, _⟩ => ⟨S32x2048x4x32, .f32⟩
  | .hbm, ⟨37, _⟩ => ⟨S32x2048x4x32, .f32⟩
  | .hbm, ⟨38, _⟩ => ⟨S32x2048x4x32, .f32⟩
  | .hbm, ⟨39, _⟩ => ⟨S32x2048x4x32, .f32⟩
  | .hbm, ⟨40, _⟩ => ⟨S32x2048x4x32, .f32⟩
  | .hbm, ⟨41, _⟩ => ⟨S32x2048x4x32, .f32⟩
  | .hbm, ⟨42, _⟩ => ⟨S32x2048x4x64, .f32⟩
  | .hbm, ⟨43, _⟩ => ⟨S32x2048x4x64, .f32⟩
  | .hbm, ⟨44, _⟩ => ⟨S32x16x128x16x64, .f32⟩
  | .hbm, ⟨45, _⟩ => ⟨S32x2048x4x4x64, .f32⟩
  | .hbm, ⟨46, _⟩ => ⟨S32x2048x16x64, .f32⟩
  | .hbm, ⟨47, _⟩ => ⟨S32x16x128x16x64, .f32⟩
  | .hbm, ⟨48, _⟩ => ⟨S32x15x128x16x64, .f32⟩
  | .hbm, ⟨49, _⟩ => ⟨S_, .i32⟩
  | .hbm, ⟨50, _⟩ => ⟨S_, .f32⟩
  | .hbm, ⟨51, _⟩ => ⟨S32x16x128x16x64, .f32⟩
  | .hbm, ⟨52, _⟩ => ⟨S32x16x256x16x64, .f32⟩
  | .hbm, ⟨53, _⟩ => ⟨S32x2048x4x4x64, .f32⟩
  | .hbm, ⟨54, _⟩ => ⟨S32x2048x16x64, .f32⟩
  | .hbm, ⟨55, _⟩ => ⟨S32x16x128x16x64, .f32⟩
  | .hbm, ⟨56, _⟩ => ⟨S32x15x128x16x64, .f32⟩
  | .hbm, ⟨57, _⟩ => ⟨S_, .i32⟩
  | .hbm, ⟨58, _⟩ => ⟨S_, .f32⟩
  | .hbm, ⟨59, _⟩ => ⟨S32x16x128x16x64, .f32⟩
  | .hbm, ⟨60, _⟩ => ⟨S32x16x256x16x64, .f32⟩
  | .hbm, ⟨61, _⟩ => ⟨S16, .i32⟩
  | .hbm, ⟨62, _⟩ => ⟨S16x1x1, .i32⟩
  | .hbm, ⟨63, _⟩ => ⟨S128, .i32⟩
  | .hbm, ⟨64, _⟩ => ⟨S1x128x1, .i32⟩
  | .hbm, ⟨65, _⟩ => ⟨S256, .i32⟩
  | .hbm, ⟨66, _⟩ => ⟨S1x1x256, .i32⟩
  | .hbm, ⟨67, _⟩ => ⟨S_, .i32⟩
  | .hbm, ⟨68, _⟩ => ⟨S1x128x1, .i32⟩
  | .hbm, ⟨69, _⟩ => ⟨S1x128x1, .i32⟩
  | .hbm, ⟨70, _⟩ => ⟨S1x128x256, .i32⟩
  | .hbm, ⟨71, _⟩ => ⟨S1x128x256, .i32⟩
  | .hbm, ⟨72, _⟩ => ⟨S1x128x256, .i32⟩
  | .hbm, ⟨73, _⟩ => ⟨S_, .i32⟩
  | .hbm, ⟨74, _⟩ => ⟨S1x128x256, .i32⟩
  | .hbm, ⟨75, _⟩ => ⟨S1x128x256, .i1⟩
  | .hbm, ⟨76, _⟩ => ⟨S_, .i32⟩
  | .hbm, ⟨77, _⟩ => ⟨S1x128x256, .i32⟩
  | .hbm, ⟨78, _⟩ => ⟨S1x128x256, .i1⟩
  | .hbm, ⟨79, _⟩ => ⟨S1x128x256, .i1⟩
  | .hbm, ⟨80, _⟩ => ⟨S_, .i32⟩
  | .hbm, ⟨81, _⟩ => ⟨S16x1x1, .i32⟩
  | .hbm, ⟨82, _⟩ => ⟨S16x1x1, .i32⟩
  | .hbm, ⟨83, _⟩ => ⟨S_, .i32⟩
  | .hbm, ⟨84, _⟩ => ⟨S16x1x1, .i32⟩
  | .hbm, ⟨85, _⟩ => ⟨S16x1x1, .i32⟩
  | .hbm, ⟨86, _⟩ => ⟨S16x1x256, .i32⟩
  | .hbm, ⟨87, _⟩ => ⟨S16x1x256, .i32⟩
  | .hbm, ⟨88, _⟩ => ⟨S16x1x256, .i32⟩
  | .hbm, ⟨89, _⟩ => ⟨S_, .i32⟩
  | .hbm, ⟨90, _⟩ => ⟨S16x1x256, .i32⟩
  | .hbm, ⟨91, _⟩ => ⟨S16x1x256, .i1⟩
  | .hbm, ⟨92, _⟩ => ⟨S16x128x256, .i1⟩
  | .hbm, ⟨93, _⟩ => ⟨S16x128x256, .i1⟩
  | .hbm, ⟨94, _⟩ => ⟨S16x128x256, .i1⟩
  | .hbm, ⟨95, _⟩ => ⟨S1x1x16x1x1, .f32⟩
  | .hbm, ⟨96, _⟩ => ⟨S32x16x16x128x256, .f32⟩
  | .hbm, ⟨97, _⟩ => ⟨S_, .f32⟩
  | .hbm, ⟨98, _⟩ => ⟨S32x16x16x128x256, .f32⟩
  | .hbm, ⟨99, _⟩ => ⟨S32x16x16x128x256, .f32⟩
  | .hbm, ⟨100, _⟩ => ⟨S1x16x1x128x256, .i1⟩
  | .hbm, ⟨101, _⟩ => ⟨S_, .f32⟩
  | .hbm, ⟨102, _⟩ => ⟨S_, .f32⟩
  | .hbm, ⟨103, _⟩ => ⟨S32x16x16x128x256, .i1⟩
  | .hbm, ⟨104, _⟩ => ⟨S32x16x16x128x256, .f32⟩
  | .hbm, ⟨105, _⟩ => ⟨S32x16x16x128x256, .f32⟩
  | .hbm, ⟨106, _⟩ => ⟨S_, .f32⟩
  | .hbm, ⟨107, _⟩ => ⟨S32x16x16x128, .f32⟩
  | .hbm, ⟨108, _⟩ => ⟨S32x16x16x128x1, .f32⟩
  | .hbm, ⟨109, _⟩ => ⟨S32x16x16x128x1, .f32⟩
  | .hbm, ⟨110, _⟩ => ⟨S32x16x16x128x1, .f32⟩
  | .hbm, ⟨111, _⟩ => ⟨S32x16x16x128x256, .f32⟩
  | .hbm, ⟨112, _⟩ => ⟨S32x16x16x128x256, .f32⟩
  | .hbm, ⟨113, _⟩ => ⟨S32x16x16x128x256, .f32⟩
  | .hbm, ⟨114, _⟩ => ⟨S_, .f32⟩
  | .hbm, ⟨115, _⟩ => ⟨S32x16x16x128, .f32⟩
  | .hbm, ⟨116, _⟩ => ⟨S32x16x16x128x1, .f32⟩
  | .hbm, ⟨117, _⟩ => ⟨S32x16x16x128x1, .f32⟩
  | .hbm, ⟨118, _⟩ => ⟨S32x16x16x128x1, .f32⟩
  | .hbm, ⟨119, _⟩ => ⟨S32x16x16x128x1, .f32⟩
  | .hbm, ⟨120, _⟩ => ⟨S32x16x16x128x1, .f32⟩
  | .hbm, ⟨121, _⟩ => ⟨S32x16x16x128x256, .f32⟩
  | .hbm, ⟨122, _⟩ => ⟨S32x16x16x128x256, .f32⟩
  | .hbm, ⟨123, _⟩ => ⟨S32x16x16x64x128, .f32⟩
  | .hbm, ⟨124, _⟩ => ⟨S32x16x128x16x64, .f32⟩
  | .hbm, ⟨125, _⟩ => ⟨S65536x1024, .f32⟩
  | .hbm, ⟨126, _⟩ => ⟨S65536x1024, .f32⟩
  | .hbm, ⟨127, _⟩ => ⟨S65536x1024, .bf16⟩
  | _, _ => ⟨S65536x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_c : Ref sig .tc := ⟨.hbm, 49, rfl⟩
abbrev main_call0_v0 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_c_0 : Ref sig .tc := ⟨.hbm, 57, rfl⟩
abbrev main_call1_v0 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_c_1 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_c_2 : Ref sig .tc := ⟨.hbm, 73, rfl⟩
abbrev main_v63 : Ref sig .tc := ⟨.hbm, 74, rfl⟩
abbrev main_v64 : Ref sig .tc := ⟨.hbm, 75, rfl⟩
abbrev main_c_3 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_c_4 : Ref sig .tc := ⟨.hbm, 80, rfl⟩
abbrev main_v68 : Ref sig .tc := ⟨.hbm, 81, rfl⟩
abbrev main_v69 : Ref sig .tc := ⟨.hbm, 82, rfl⟩
abbrev main_c_5 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_c_6 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_7 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v85 : Ref sig .tc := ⟨.hbm, 105, rfl⟩
abbrev main_cst_8 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_9 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩

abbrev nD : Nat := 1
abbrev τ : Topo := Topo.v7x

variable {F : FTy → Type} [FloatOps F]
-- ==== InProj.lean ====
abbrev S65536x1024 : Shape := ⟨2, ![65536, 1024]⟩
abbrev S1024x9744 : Shape := ⟨2, ![1024, 9744]⟩
abbrev S1024x6144 : Shape := ⟨2, ![1024, 6144]⟩
abbrev S1024x3584 : Shape := ⟨2, ![1024, 3584]⟩
abbrev S1024x9728 : Shape := ⟨2, ![1024, 9728]⟩
abbrev S1024x16 : Shape := ⟨2, ![1024, 16]⟩
abbrev S_ : Shape := ⟨0, ![]⟩
abbrev S1024x128 : Shape := ⟨2, ![1024, 128]⟩
abbrev S65536x9728 : Shape := ⟨2, ![65536, 9728]⟩
abbrev S65536x128 : Shape := ⟨2, ![65536, 128]⟩
abbrev S1024x1024 : Shape := ⟨2, ![1024, 1024]⟩
abbrev S1024x512 : Shape := ⟨2, ![1024, 512]⟩

abbrev nBuf : Space → Nat
  | .hbm => 13
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024x9744, .f32⟩
  | .hbm, ⟨2, _⟩ => ⟨S1024x6144, .f32⟩
  | .hbm, ⟨3, _⟩ => ⟨S1024x3584, .f32⟩
  | .hbm, ⟨4, _⟩ => ⟨S1024x9728, .f32⟩
  | .hbm, ⟨5, _⟩ => ⟨S1024x9728, .bf16⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S65536x9728, .bf16⟩
  | .hbm, ⟨12, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x128, .bf16⟩
  | .local _ .vmem, ⟨5, _⟩ => ⟨S1024x512, .bf16⟩
  | .local _ .vmem, ⟨6, _⟩ => ⟨S1024x512, .bf16⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 19], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjReferenceIdeal.lean ====
abbrev S65536x1024 : Shape := ⟨2, ![65536, 1024]⟩
abbrev S1024x9744 : Shape := ⟨2, ![1024, 9744]⟩
abbrev S65536x9744 : Shape := ⟨2, ![65536, 9744]⟩
abbrev S65536x6144 : Shape := ⟨2, ![65536, 6144]⟩
abbrev S65536x3584 : Shape := ⟨2, ![65536, 3584]⟩
abbrev S65536x9728 : Shape := ⟨2, ![65536, 9728]⟩
abbrev S65536x16 : Shape := ⟨2, ![65536, 16]⟩
abbrev S_ : Shape := ⟨0, ![]⟩
abbrev S65536x128 : Shape := ⟨2, ![65536, 128]⟩

abbrev nBuf : Space → Nat
  | .hbm => 11
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x9744, .f32⟩
  | .hbm, ⟨2, _⟩ => ⟨S65536x9744, .f32⟩
  | .hbm, ⟨3, _⟩ => ⟨S65536x6144, .f32⟩
  | .hbm, ⟨4, _⟩ => ⟨S65536x3584, .f32⟩
  | .hbm, ⟨5, _⟩ => ⟨S65536x9728, .f32⟩
  | .hbm, ⟨6, _⟩ => ⟨S65536x16, .f32⟩
  | .hbm, ⟨7, _⟩ => ⟨S65536x9728, .bf16⟩
  | .hbm, ⟨8, _⟩ => ⟨S_, .i32⟩
  | .hbm, ⟨9, _⟩ => ⟨S_, .f32⟩
  | .hbm, ⟨10, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Merge.lean ====
abbrev S65536x9728 : Shape := ⟨2, ![65536, 9728]⟩
abbrev S3x1024 : Shape := ⟨2, ![3, 1024]⟩
abbrev S65536x1024 : Shape := ⟨2, ![65536, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S1x1024 : Shape := ⟨2, ![1, 1024]⟩
abbrev S65536x128 : Shape := ⟨2, ![65536, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 27
  | .vmem => 24
  | .smem => 0
  | _ => 0

abbrev bufTy : (tb : Table) → Fin (tcTables nBuf tb) → BufTy
  | .hbm, ⟨0, _⟩ => ⟨S65536x9728, .bf16⟩
  | .hbm, ⟨1, _⟩ => ⟨S3x1024, .f32⟩
  | .hbm, ⟨2, _⟩ => ⟨S65536x1024, .bf16⟩
  | .hbm, ⟨3, _⟩ => ⟨S65536x1024, .bf16⟩
  | .hbm, ⟨4, _⟩ => ⟨S65536x1024, .bf16⟩
  | .hbm, ⟨5, _⟩ => ⟨S65536x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S1024x36, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S36, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S65536x1024, .f32⟩
  | .hbm, ⟨26, _⟩ => ⟨S65536x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x128, .f32⟩
  | .local _ .vmem, ⟨19, _⟩ => ⟨S1x128, .f32⟩
  | .local _ .vmem, ⟨20, _⟩ => ⟨S512x1024, .f32⟩
  | .local _ .vmem, ⟨21, _⟩ => ⟨S512x1024, .f32⟩
  | .local _ .vmem, ⟨22, _⟩ => ⟨S512x128, .f32⟩
  | .local _ .vmem, ⟨23, _⟩ => ⟨S512x128, .f32⟩
  | _, _ => ⟨S65536x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call1_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeReferenceIdeal.lean ====
abbrev S65536x9728 : Shape := ⟨2, ![65536, 9728]⟩
abbrev S3x1024 : Shape := ⟨2, ![3, 1024]⟩
abbrev S65536x1024 : Shape := ⟨2, ![65536, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S65536x3072 : Shape := ⟨2, ![65536, 3072]⟩
abbrev S65536x3x1024 : Shape := ⟨3, ![65536, 3, 1024]⟩
abbrev S1x3x1024 : Shape := ⟨3, ![1, 3, 1024]⟩
abbrev S_ : Shape := ⟨0, ![]⟩
abbrev S65536x1x1024 : Shape := ⟨3, ![65536, 1, 1024]⟩
abbrev S65536 : Shape := ⟨1, ![65536]⟩
abbrev S65536x1 : Shape := ⟨2, ![65536, 1]⟩
abbrev S1x1024 : Shape := ⟨2, ![1, 1024]⟩
abbrev S65536x4 : Shape := ⟨2, ![65536, 4]⟩
abbrev S1x4 : Shape := ⟨2, ![1, 4]⟩
abbrev S65536x32 : Shape := ⟨2, ![65536, 32]⟩
abbrev S1x32 : Shape := ⟨2, ![1, 32]⟩
abbrev S65536x36 : Shape := ⟨2, ![65536, 36]⟩
abbrev S65536x128 : Shape := ⟨2, ![65536, 128]⟩

abbrev nBuf : Space → Nat
  | .hbm => 87
  | .vmem => 0
  | .smem => 0
  | _ => 0

abbrev bufTy : (tb : Table) → Fin (tcTables nBuf tb) → BufTy
  | .hbm, ⟨0, _⟩ => ⟨S65536x9728, .bf16⟩
  | .hbm, ⟨1, _⟩ => ⟨S3x1024, .f32⟩
  | .hbm, ⟨2, _⟩ => ⟨S65536x1024, .bf16⟩
  | .hbm, ⟨3, _⟩ => ⟨S65536x1024, .bf16⟩
  | .hbm, ⟨4, _⟩ => ⟨S65536x1024, .bf16⟩
  | .hbm, ⟨5, _⟩ => ⟨S65536x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S65536x3072, .bf16⟩
  | .hbm, ⟨14, _⟩ => ⟨S65536x3072, .f32⟩
  | .hbm, ⟨15, _⟩ => ⟨S65536x3x1024, .f32⟩
  | .hbm, ⟨16, _⟩ => ⟨S1x3x1024, .f32⟩
  | .hbm, ⟨17, _⟩ => ⟨S65536x3x1024, .f32⟩
  | .hbm, ⟨18, _⟩ => ⟨S65536x3x1024, .f32⟩
  | .hbm, ⟨19, _⟩ => ⟨S65536x3x1024, .f32⟩
  | .hbm, ⟨20, _⟩ => ⟨S65536x3x1024, .f32⟩
  | .hbm, ⟨21, _⟩ => ⟨S_, .f32⟩
  | .hbm, ⟨22, _⟩ => ⟨S65536x3x1024, .f32⟩
  | .hbm, ⟨23, _⟩ => ⟨S65536x3x1024, .f32⟩
  | .hbm, ⟨24, _⟩ => ⟨S_, .f32⟩
  | .hbm, ⟨25, _⟩ => ⟨S65536x3x1024, .f32⟩
  | .hbm, ⟨26, _⟩ => ⟨S65536x3x1024, .f32⟩
  | .hbm, ⟨27, _⟩ => ⟨S65536x1x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S65536x1x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S_, .f32⟩
  | .hbm, ⟨47, _⟩ => ⟨S65536, .f32⟩
  | .hbm, ⟨48, _⟩ => ⟨S65536x1, .f32⟩
  | .hbm, ⟨49, _⟩ => ⟨S_, .f32⟩
  | .hbm, ⟨50, _⟩ => ⟨S65536x1, .f32⟩
  | .hbm, ⟨51, _⟩ => ⟨S65536x1, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S_, .f32⟩
  | .hbm, ⟨56, _⟩ => ⟨S65536, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S65536x1024, .f32⟩
  | .hbm, ⟨62, _⟩ => ⟨S65536x1024, .f32⟩
  | .hbm, ⟨63, _⟩ => ⟨S_, .f32⟩
  | .hbm, ⟨64, _⟩ => ⟨S65536x1, .f32⟩
  | .hbm, ⟨65, _⟩ => ⟨S65536x1, .f32⟩
  | .hbm, ⟨66, _⟩ => ⟨S65536x1, .f32⟩
  | .hbm, ⟨67, _⟩ => ⟨S65536x1024, .f32⟩
  | .hbm, ⟨68, _⟩ => ⟨S65536x1024, .f32⟩
  | .hbm, ⟨69, _⟩ => ⟨S1x1024, .f32⟩
  | .hbm, ⟨70, _⟩ => ⟨S65536x1024, .f32⟩
  | .hbm, ⟨71, _⟩ => ⟨S65536x1024, .f32⟩
  | .hbm, ⟨72, _⟩ => ⟨S1x1024, .f32⟩
  | .hbm, ⟨73, _⟩ => ⟨S65536x1024, .f32⟩
  | .hbm, ⟨74, _⟩ => ⟨S65536x1024, .f32⟩
  | .hbm, ⟨75, _⟩ => ⟨S65536x4, .f32⟩
  | .hbm, ⟨76, _⟩ => ⟨S1x4, .f32⟩
  | .hbm, ⟨77, _⟩ => ⟨S65536x4, .f32⟩
  | .hbm, ⟨78, _⟩ => ⟨S65536x4, .f32⟩
  | .hbm, ⟨79, _⟩ => ⟨S65536x32, .f32⟩
  | .hbm, ⟨80, _⟩ => ⟨S1x32, .f32⟩
  | .hbm, ⟨81, _⟩ => ⟨S65536x32, .f32⟩
  | .hbm, ⟨82, _⟩ => ⟨S65536x32, .f32⟩
  | .hbm, ⟨83, _⟩ => ⟨S65536x36, .f32⟩
  | .hbm, ⟨84, _⟩ => ⟨S_, .i32⟩
  | .hbm, ⟨85, _⟩ => ⟨S_, .f32⟩
  | .hbm, ⟨86, _⟩ => ⟨S65536x128, .f32⟩
  | _, _ => ⟨S65536x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c : Ref sig .tc := ⟨.hbm, 84, rfl⟩
abbrev main_call0_v0 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Rope.lean ====
abbrev S32x2048 : Shape := ⟨2, ![32, 2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S65536x1 : Shape := ⟨2, ![65536, 1]⟩
abbrev S65536x128 : Shape := ⟨2, ![65536, 128]⟩
abbrev S1024x1 : Shape := ⟨2, ![1024, 1]⟩
abbrev S1024x128 : Shape := ⟨2, ![1024, 128]⟩

abbrev nBuf : Space → Nat
  | .hbm => 26
  | .vmem => 8
  | .smem => 0
  | _ => 0

abbrev bufTy : (tb : Table) → Fin (tcTables nBuf tb) → BufTy
  | .hbm, ⟨0, _⟩ => ⟨S32x2048, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S4x32, .f32⟩
  | .hbm, ⟨11, _⟩ => ⟨S128, .f32⟩
  | .hbm, ⟨12, _⟩ => ⟨S1x128, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S64, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S65536x1, .i32⟩
  | .hbm, ⟨24, _⟩ => ⟨S65536x128, .f32⟩
  | .hbm, ⟨25, _⟩ => ⟨S65536x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeReferenceIdeal.lean ====
abbrev S32x2048 : Shape := ⟨2, ![32, 2048]⟩
abbrev S32 : Shape := ⟨1, ![32]⟩
abbrev S_ : Shape := ⟨0, ![]⟩
abbrev S32x2048x1 : Shape := ⟨3, ![32, 2048, 1]⟩
abbrev S1x1x32 : Shape := ⟨3, ![1, 1, 32]⟩
abbrev S32x2048x32 : Shape := ⟨3, ![32, 2048, 32]⟩
abbrev S65536x32 : Shape := ⟨2, ![65536, 32]⟩
abbrev S65536x128 : Shape := ⟨2, ![65536, 128]⟩

abbrev nBuf : Space → Nat
  | .hbm => 23
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32x2048, .f32⟩
  | .hbm, ⟨10, _⟩ => ⟨S32x2048x1, .f32⟩
  | .hbm, ⟨11, _⟩ => ⟨S1x1x32, .f32⟩
  | .hbm, ⟨12, _⟩ => ⟨S32x2048x32, .f32⟩
  | .hbm, ⟨13, _⟩ => ⟨S32x2048x32, .f32⟩
  | .hbm, ⟨14, _⟩ => ⟨S32x2048x32, .f32⟩
  | .hbm, ⟨15, _⟩ => ⟨S32x2048x32, .f32⟩
  | .hbm, ⟨16, _⟩ => ⟨S65536x32, .f32⟩
  | .hbm, ⟨17, _⟩ => ⟨S32x2048x32, .f32⟩
  | .hbm, ⟨18, _⟩ => ⟨S65536x32, .f32⟩
  | .hbm, ⟨19, _⟩ => ⟨S65536x128, .f32⟩
  | .hbm, ⟨20, _⟩ => ⟨S65536x32, .f32⟩
  | .hbm, ⟨21, _⟩ => ⟨S65536x32, .f32⟩
  | .hbm, ⟨22, _⟩ => ⟨S65536x128, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Conf.lean ====
abbrev S65536x9728 : Shape := ⟨2, ![65536, 9728]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S32x1024 : Shape := ⟨2, ![32, 1024]⟩
abbrev S1x1024 : Shape := ⟨2, ![1, 1024]⟩
abbrev S65536x1024 : Shape := ⟨2, ![65536, 1024]⟩
abbrev S256x2048 : Shape := ⟨2, ![256, 2048]⟩
abbrev S256x1024 : Shape := ⟨2, ![256, 1024]⟩
abbrev S288x1024 : Shape := ⟨2, ![288, 1024]⟩
abbrev S1x256 : Shape := ⟨2, ![1, 256]⟩
abbrev S64x256 : Shape := ⟨2, ![64, 256]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S65536x9728, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S_, .i32⟩
  | .hbm, ⟨7, _⟩ => ⟨S_, .f32⟩
  | .hbm, ⟨8, _⟩ => ⟨S32x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x1024, .bf16⟩
  | .hbm, ⟨13, _⟩ => ⟨S65536x1024, .bf16⟩
  | .local _ .vmem, ⟨0, _⟩ => ⟨S256x2048, .bf16⟩
  | .local _ .vmem, ⟨1, _⟩ => ⟨S256x2048, .bf16⟩
  | .local _ .vmem, ⟨2, _⟩ => ⟨S32x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S256x1024, .bf16⟩
  | .local _ .vmem, ⟨8, _⟩ => ⟨S256x1024, .bf16⟩
  | .local _ .vmem, ⟨9, _⟩ => ⟨S288x1024, .f32⟩
  | .local _ .vmem, ⟨10, _⟩ => ⟨S256x1024, .f32⟩
  | _, _ => ⟨S65536x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConfReferenceIdeal.lean ====
abbrev S65536x9728 : Shape := ⟨2, ![65536, 9728]⟩
abbrev S31x1024 : Shape := ⟨2, ![31, 1024]⟩
abbrev S1024 : Shape := ⟨1, ![1024]⟩
abbrev S1024x1024 : Shape := ⟨2, ![1024, 1024]⟩
abbrev S65536x2048 : Shape := ⟨2, ![65536, 2048]⟩
abbrev S32x2048x2048 : Shape := ⟨3, ![32, 2048, 2048]⟩
abbrev S32x2048x1024 : Shape := ⟨3, ![32, 2048, 1024]⟩
abbrev S_ : Shape := ⟨0, ![]⟩
abbrev S32x2078x1024 : Shape := ⟨3, ![32, 2078, 1024]⟩
abbrev S1x1024 : Shape := ⟨2, ![1, 1024]⟩
abbrev S1x1x1024 : Shape := ⟨3, ![1, 1, 1024]⟩
abbrev S65536x1024 : Shape := ⟨2, ![65536, 1024]⟩
abbrev S65536 : Shape := ⟨1, ![65536]⟩
abbrev S65536x1 : Shape := ⟨2, ![65536, 1]⟩

abbrev nBuf : Space → Nat
  | .hbm => 286
  | .vmem => 0
  | .smem => 0
  | _ => 0

abbrev hbmTy0_0 (i : Nat) : BufTy := match i % 128 with
  | 0 => ⟨S65536x9728, .bf16⟩
  | 1 => ⟨S31x1024, .f32⟩
  | 2 => ⟨S1024, .f32⟩
  | 3 => ⟨S1024, .f32⟩
  | 4 => ⟨S1024, .f32⟩
  | 5 => ⟨S1024x1024, .f32⟩
  | 6 => ⟨S65536x2048, .bf16⟩
  | 7 => ⟨S65536x2048, .f32⟩
  | 8 => ⟨S32x2048x2048, .f32⟩
  | 9 => ⟨S32x2048x1024, .f32⟩
  | 10 => ⟨S32x2048x1024, .f32⟩
  | 11 => ⟨S32x2048x1024, .f32⟩
  | 12 => ⟨S32x2048x1024, .f32⟩
  | 13 => ⟨S_, .f32⟩
  | 14 => ⟨S32x2048x1024, .f32⟩
  | 15 => ⟨S32x2048x1024, .f32⟩
  | 16 => ⟨S_, .f32⟩
  | 17 => ⟨S32x2048x1024, .f32⟩
  | 18 => ⟨S32x2048x1024, .f32⟩
  | 19 => ⟨S32x2048x1024, .f32⟩
  | 20 => ⟨S_, .i32⟩
  | 21 => ⟨S_, .f32⟩
  | 22 => ⟨S32x2078x1024, .f32⟩
  | 23 => ⟨S_, .f32⟩
  | 24 => ⟨S32x2048x1024, .f32⟩
  | 25 => ⟨S1x1024, .f32⟩
  | 26 => ⟨S1024, .f32⟩
  | 27 => ⟨S32x2048x1024, .f32⟩
  | 28 => ⟨S1x1x1024, .f32⟩
  | 29 => ⟨S32x2048x1024, .f32⟩
  | 30 => ⟨S32x2048x1024, .f32⟩
  | 31 => ⟨S32x2048x1024, .f32⟩
  | 32 => ⟨S1x1024, .f32⟩
  | 33 => ⟨S1024, .f32⟩
  | 34 => ⟨S32x2048x1024, .f32⟩
  | 35 => ⟨S1x1x1024, .f32⟩
  | 36 => ⟨S32x2048x1024, .f32⟩
  | 37 => ⟨S32x2048x1024, .f32⟩
  | 38 => ⟨S32x2048x1024, .f32⟩
  | 39 => ⟨S1x1024, .f32⟩
  | 40 => ⟨S1024, .f32⟩
  | 41 => ⟨S32x2048x1024, .f32⟩
  | 42 => ⟨S1x1x1024, .f32⟩
  | 43 => ⟨S32x2048x1024, .f32⟩
  | 44 => ⟨S32x2048x1024, .f32⟩
  | 45 => ⟨S32x2048x1024, .f32⟩
  | 46 => ⟨S1x1024, .f32⟩
  | 47 => ⟨S1024, .f32⟩
  | 48 => ⟨S32x2048x1024, .f32⟩
  | 49 => ⟨S1x1x1024, .f32⟩
  | 50 => ⟨S32x2048x1024, .f32⟩
  | 51 => ⟨S32x2048x1024, .f32⟩
  | 52 => ⟨S32x2048x1024, .f32⟩
  | 53 => ⟨S1x1024, .f32⟩
  | 54 => ⟨S1024, .f32⟩
  | 55 => ⟨S32x2048x1024, .f32⟩
  | 56 => ⟨S1x1x1024, .f32⟩
  | 57 => ⟨S32x2048x1024, .f32⟩
  | 58 => ⟨S32x2048x1024, .f32⟩
  | 59 => ⟨S32x2048x1024, .f32⟩
  | 60 => ⟨S1x1024, .f32⟩
  | 61 => ⟨S1024, .f32⟩
  | 62 => ⟨S32x2048x1024, .f32⟩
  | 63 => ⟨S1x1x1024, .f32⟩
  | 64 => ⟨S32x2048x1024, .f32⟩
  | 65 => ⟨S32x2048x1024, .f32⟩
  | 66 => ⟨S32x2048x1024, .f32⟩
  | 67 => ⟨S1x1024, .f32⟩
  | 68 => ⟨S1024, .f32⟩
  | 69 => ⟨S32x2048x1024, .f32⟩
  | 70 => ⟨S1x1x1024, .f32⟩
  | 71 => ⟨S32x2048x1024, .f32⟩
  | 72 => ⟨S32x2048x1024, .f32⟩
  | 73 => ⟨S32x2048x1024, .f32⟩
  | 74 => ⟨S1x1024, .f32⟩
  | 75 => ⟨S1024, .f32⟩
  | 76 => ⟨S32x2048x1024, .f32⟩
  | 77 => ⟨S1x1x1024, .f32⟩
  | 78 => ⟨S32x2048x1024, .f32⟩
  | 79 => ⟨S32x2048x1024, .f32⟩
  | 80 => ⟨S32x2048x1024, .f32⟩
  | 81 => ⟨S1x1024, .f32⟩
  | 82 => ⟨S1024, .f32⟩
  | 83 => ⟨S32x2048x1024, .f32⟩
  | 84 => ⟨S1x1x1024, .f32⟩
  | 85 => ⟨S32x2048x1024, .f32⟩
  | 86 => ⟨S32x2048x1024, .f32⟩
  | 87 => ⟨S32x2048x1024, .f32⟩
  | 88 => ⟨S1x1024, .f32⟩
  | 89 => ⟨S1024, .f32⟩
  | 90 => ⟨S32x2048x1024, .f32⟩
  | 91 => ⟨S1x1x1024, .f32⟩
  | 92 => ⟨S32x2048x1024, .f32⟩
  | 93 => ⟨S32x2048x1024, .f32⟩
  | 94 => ⟨S32x2048x1024, .f32⟩
  | 95 => ⟨S1x1024, .f32⟩
  | 96 => ⟨S1024, .f32⟩
  | 97 => ⟨S32x2048x1024, .f32⟩
  | 98 => ⟨S1x1x1024, .f32⟩
  | 99 => ⟨S32x2048x1024, .f32⟩
  | 100 => ⟨S32x2048x1024, .f32⟩
  | 101 => ⟨S32x2048x1024, .f32⟩
  | 102 => ⟨S1x1024, .f32⟩
  | 103 => ⟨S1024, .f32⟩
  | 104 => ⟨S32x2048x1024, .f32⟩
  | 105 => ⟨S1x1x1024, .f32⟩
  | 106 => ⟨S32x2048x1024, .f32⟩
  | 107 => ⟨S32x2048x1024, .f32⟩
  | 108 => ⟨S32x2048x1024, .f32⟩
  | 109 => ⟨S1x1024, .f32⟩
  | 110 => ⟨S1024, .f32⟩
  | 111 => ⟨S32x2048x1024, .f32⟩
  | 112 => ⟨S1x1x1024, .f32⟩
  | 113 => ⟨S32x2048x1024, .f32⟩
  | 114 => ⟨S32x2048x1024, .f32⟩
  | 115 => ⟨S32x2048x1024, .f32⟩
  | 116 => ⟨S1x1024, .f32⟩
  | 117 => ⟨S1024, .f32⟩
  | 118 => ⟨S32x2048x1024, .f32⟩
  | 119 => ⟨S1x1x1024, .f32⟩
  | 120 => ⟨S32x2048x1024, .f32⟩
  | 121 => ⟨S32x2048x1024, .f32⟩
  | 122 => ⟨S32x2048x1024, .f32⟩
  | 123 => ⟨S1x1024, .f32⟩
  | 124 => ⟨S1024, .f32⟩
  | 125 => ⟨S32x2048x1024, .f32⟩
  | 126 => ⟨S1x1x1024, .f32⟩
  | 127 => ⟨S32x2048x1024, .f32⟩
  | _ => ⟨S65536x9728, .bf16⟩

abbrev hbmTy0_1 (i : Nat) : BufTy := match i % 128 with
  | 0 => ⟨S32x2048x1024, .f32⟩
  | 1 => ⟨S32x2048x1024, .f32⟩
  | 2 => ⟨S1x1024, .f32⟩
  | 3 => ⟨S1024, .f32⟩
  | 4 => ⟨S32x2048x1024, .f32⟩
  | 5 => ⟨S1x1x1024, .f32⟩
  | 6 => ⟨S32x2048x1024, .f32⟩
  | 7 => ⟨S32x2048x1024, .f32⟩
  | 8 => ⟨S32x2048x1024, .f32⟩
  | 9 => ⟨S1x1024, .f32⟩
  | 10 => ⟨S1024, .f32⟩
  | 11 => ⟨S32x2048x1024, .f32⟩
  | 12 => ⟨S1x1x1024, .f32⟩
  | 13 => ⟨S32x2048x1024, .f32⟩
  | 14 => ⟨S32x2048x1024, .f32⟩
  | 15 => ⟨S32x2048x1024, .f32⟩
  | 16 => ⟨S1x1024, .f32⟩
  | 17 => ⟨S1024, .f32⟩
  | 18 => ⟨S32x2048x1024, .f32⟩
  | 19 => ⟨S1x1x1024, .f32⟩
  | 20 => ⟨S32x2048x1024, .f32⟩
  | 21 => ⟨S32x2048x1024, .f32⟩
  | 22 => ⟨S32x2048x1024, .f32⟩
  | 23 => ⟨S1x1024, .f32⟩
  | 24 => ⟨S1024, .f32⟩
  | 25 => ⟨S32x2048x1024, .f32⟩
  | 26 => ⟨S1x1x1024, .f32⟩
  | 27 => ⟨S32x2048x1024, .f32⟩
  | 28 => ⟨S32x2048x1024, .f32⟩
  | 29 => ⟨S32x2048x1024, .f32⟩
  | 30 => ⟨S1x1024, .f32⟩
  | 31 => ⟨S1024, .f32⟩
  | 32 => ⟨S32x2048x1024, .f32⟩
  | 33 => ⟨S1x1x1024, .f32⟩
  | 34 => ⟨S32x2048x1024, .f32⟩
  | 35 => ⟨S32x2048x1024, .f32⟩
  | 36 => ⟨S32x2048x1024, .f32⟩
  | 37 => ⟨S1x1024, .f32⟩
  | 38 => ⟨S1024, .f32⟩
  | 39 => ⟨S32x2048x1024, .f32⟩
  | 40 => ⟨S1x1x1024, .f32⟩
  | 41 => ⟨S32x2048x1024, .f32⟩
  | 42 => ⟨S32x2048x1024, .f32⟩
  | 43 => ⟨S32x2048x1024, .f32⟩
  | 44 => ⟨S1x1024, .f32⟩
  | 45 => ⟨S1024, .f32⟩
  | 46 => ⟨S32x2048x1024, .f32⟩
  | 47 => ⟨S1x1x1024, .f32⟩
  | 48 => ⟨S32x2048x1024, .f32⟩
  | 49 => ⟨S32x2048x1024, .f32⟩
  | 50 => ⟨S32x2048x1024, .f32⟩
  | 51 => ⟨S1x1024, .f32⟩
  | 52 => ⟨S1024, .f32⟩
  | 53 => ⟨S32x2048x1024, .f32⟩
  | 54 => ⟨S1x1x1024, .f32⟩
  | 55 => ⟨S32x2048x1024, .f32⟩
  | 56 => ⟨S32x2048x1024, .f32⟩
  | 57 => ⟨S32x2048x1024, .f32⟩
  | 58 => ⟨S1x1024, .f32⟩
  | 59 => ⟨S1024, .f32⟩
  | 60 => ⟨S32x2048x1024, .f32⟩
  | 61 => ⟨S1x1x1024, .f32⟩
  | 62 => ⟨S32x2048x1024, .f32⟩
  | 63 => ⟨S32x2048x1024, .f32⟩
  | 64 => ⟨S32x2048x1024, .f32⟩
  | 65 => ⟨S1x1024, .f32⟩
  | 66 => ⟨S1024, .f32⟩
  | 67 => ⟨S32x2048x1024, .f32⟩
  | 68 => ⟨S1x1x1024, .f32⟩
  | 69 => ⟨S32x2048x1024, .f32⟩
  | 70 => ⟨S32x2048x1024, .f32⟩
  | 71 => ⟨S32x2048x1024, .f32⟩
  | 72 => ⟨S1x1024, .f32⟩
  | 73 => ⟨S1024, .f32⟩
  | 74 => ⟨S32x2048x1024, .f32⟩
  | 75 => ⟨S1x1x1024, .f32⟩
  | 76 => ⟨S32x2048x1024, .f32⟩
  | 77 => ⟨S32x2048x1024, .f32⟩
  | 78 => ⟨S32x2048x1024, .f32⟩
  | 79 => ⟨S1x1024, .f32⟩
  | 80 => ⟨S1024, .f32⟩
  | 81 => ⟨S32x2048x1024, .f32⟩
  | 82 => ⟨S1x1x1024, .f32⟩
  | 83 => ⟨S32x2048x1024, .f32⟩
  | 84 => ⟨S32x2048x1024, .f32⟩
  | 85 => ⟨S32x2048x1024, .f32⟩
  | 86 => ⟨S1x1024, .f32⟩
  | 87 => ⟨S1024, .f32⟩
  | 88 => ⟨S32x2048x1024, .f32⟩
  | 89 => ⟨S1x1x1024, .f32⟩
  | 90 => ⟨S32x2048x1024, .f32⟩
  | 91 => ⟨S32x2048x1024, .f32⟩
  | 92 => ⟨S32x2048x1024, .f32⟩
  | 93 => ⟨S1x1024, .f32⟩
  | 94 => ⟨S1024, .f32⟩
  | 95 => ⟨S32x2048x1024, .f32⟩
  | 96 => ⟨S1x1x1024, .f32⟩
  | 97 => ⟨S32x2048x1024, .f32⟩
  | 98 => ⟨S32x2048x1024, .f32⟩
  | 99 => ⟨S32x2048x1024, .f32⟩
  | 100 => ⟨S1x1024, .f32⟩
  | 101 => ⟨S1024, .f32⟩
  | 102 => ⟨S32x2048x1024, .f32⟩
  | 103 => ⟨S1x1x1024, .f32⟩
  | 104 => ⟨S32x2048x1024, .f32⟩
  | 105 => ⟨S32x2048x1024, .f32⟩
  | 106 => ⟨S32x2048x1024, .f32⟩
  | 107 => ⟨S1x1024, .f32⟩
  | 108 => ⟨S1024, .f32⟩
  | 109 => ⟨S32x2048x1024, .f32⟩
  | 110 => ⟨S1x1x1024, .f32⟩
  | 111 => ⟨S32x2048x1024, .f32⟩
  | 112 => ⟨S32x2048x1024, .f32⟩
  | 113 => ⟨S32x2048x1024, .f32⟩
  | 114 => ⟨S1x1x1024, .f32⟩
  | 115 => ⟨S32x2048x1024, .f32⟩
  | 116 => ⟨S32x2048x1024, .f32⟩
  | 117 => ⟨S65536x1024, .f32⟩
  | 118 => ⟨S_, .f32⟩
  | 119 => ⟨S65536, .f32⟩
  | 120 => ⟨S65536x1, .f32⟩
  | 121 => ⟨S_, .f32⟩
  | 122 => ⟨S65536x1, .f32⟩
  | 123 => ⟨S65536x1, .f32⟩
  | 124 => ⟨S65536x1024, .f32⟩
  | 125 => ⟨S65536x1024, .f32⟩
  | 126 => ⟨S65536x1024, .f32⟩
  | 127 => ⟨S_, .f32⟩
  | _ => ⟨S65536x9728, .bf16⟩

abbrev hbmTy0_2 (i : Nat) : BufTy := match i % 128 with
  | 0 => ⟨S65536, .f32⟩
  | 1 => ⟨S65536x1, .f32⟩
  | 2 => ⟨S_, .f32⟩
  | 3 => ⟨S65536x1, .f32⟩
  | 4 => ⟨S65536x1, .f32⟩
  | 5 => ⟨S65536x1024, .f32⟩
  | 6 => ⟨S65536x1024, .f32⟩
  | 7 => ⟨S_, .f32⟩
  | 8 => ⟨S65536x1, .f32⟩
  | 9 => ⟨S65536x1, .f32⟩
  | 10 => ⟨S65536x1, .f32⟩
  | 11 => ⟨S65536x1024, .f32⟩
  | 12 => ⟨S65536x1024, .f32⟩
  | 13 => ⟨S1x1024, .f32⟩
  | 14 => ⟨S65536x1024, .f32⟩
  | 15 => ⟨S65536x1024, .f32⟩
  | 16 => ⟨S1x1024, .f32⟩
  | 17 => ⟨S65536x1024, .f32⟩
  | 18 => ⟨S65536x1024, .f32⟩
  | 19 => ⟨S65536x1024, .f32⟩
  | 20 => ⟨S65536x1024, .f32⟩
  | 21 => ⟨S_, .f32⟩
  | 22 => ⟨S65536x1024, .f32⟩
  | 23 => ⟨S65536x1024, .f32⟩
  | 24 => ⟨S_, .f32⟩
  | 25 => ⟨S65536x1024, .f32⟩
  | 26 => ⟨S65536x1024, .f32⟩
  | 27 => ⟨S65536x1024, .f32⟩
  | 28 => ⟨S65536x1024, .f32⟩
  | 29 => ⟨S65536x1024, .bf16⟩
  | _ => ⟨S65536x9728, .bf16⟩

abbrev hbmTy (i : Nat) : BufTy := match i / 128 with
  | 0 => hbmTy0_0 i
  | 1 => hbmTy0_1 i
  | 2 => hbmTy0_2 i
  | _ => ⟨S65536x9728, .bf16⟩

abbrev bufTy : (tb : Table) → Fin (tcTables nBuf tb) → BufTy
  | .hbm, ⟨i, _⟩ => hbmTy i
  | _, _ => ⟨S65536x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_cst_2 : Ref sig .tc := ⟨.hbm, 246, rfl⟩
abbrev main_v235 : Ref sig .tc := ⟨.hbm, 247, rfl⟩
abbrev main_v236 : Ref sig .tc := ⟨.hbm, 248, rfl⟩
abbrev main_cst_3 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_cst_4 : Ref sig .tc := ⟨.hbm, 255, rfl⟩
abbrev main_v242 : Ref sig .tc := ⟨.hbm, 256, rfl⟩
abbrev main_v243 : Ref sig .tc := ⟨.hbm, 257, rfl⟩
abbrev main_cst_5 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_cst_6 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_cst_7 : Ref sig .tc := ⟨.hbm, 277, rfl⟩
abbrev main_v261 : Ref sig .tc := ⟨.hbm, 278, rfl⟩
abbrev main_v262 : Ref sig .tc := ⟨.hbm, 279, rfl⟩
abbrev main_cst_8 : Ref sig .tc := ⟨.hbm, 280, rfl⟩
abbrev main_v263 : Ref sig .tc := ⟨.hbm, 281, rfl⟩
abbrev main_v264 : Ref sig .tc := ⟨.hbm, 282, rfl⟩
abbrev main_v265 : Ref sig .tc := ⟨.hbm, 283, rfl⟩
abbrev main_v266 : Ref sig .tc := ⟨.hbm, 284, rfl⟩
abbrev main_v267 : Ref sig .tc := ⟨.hbm, 285, rfl⟩

abbrev nD : Nat := 1
abbrev τ : Topo := Topo.v7x

variable {F : FTy → Type} [FloatOps F]
-- ==== Ssd.lean ====
abbrev S65536x9728 : Shape := ⟨2, ![65536, 9728]⟩
abbrev S65536x128 : Shape := ⟨2, ![65536, 128]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S1024x1024 : Shape := ⟨2, ![1024, 1024]⟩
abbrev S_ : Shape := ⟨0, ![]⟩
abbrev S128 : Shape := ⟨1, ![128]⟩
abbrev S1x128 : Shape := ⟨2, ![1, 128]⟩
abbrev S16x64 : Shape := ⟨2, ![16, 64]⟩
abbrev S1x1024 : Shape := ⟨2, ![1, 1024]⟩
abbrev S1x2048 : Shape := ⟨2, ![1, 2048]⟩
abbrev S65536x1024 : Shape := ⟨2, ![65536, 1024]⟩
abbrev S128x2048 : Shape := ⟨2, ![128, 2048]⟩
abbrev S128x1024 : Shape := ⟨2, ![128, 1024]⟩
abbrev S128x128 : Shape := ⟨2, ![128, 128]⟩
abbrev S8x128x128 : Shape := ⟨3, ![8, 128, 128]⟩
abbrev S136x2048 : Shape := ⟨2, ![136, 2048]⟩
abbrev S8x2048 : Shape := ⟨2, ![8, 2048]⟩
abbrev S128x512 : Shape := ⟨2, ![128, 512]⟩
abbrev S128x1 : Shape := ⟨2, ![128, 1]⟩
abbrev S128x256 : Shape := ⟨2, ![128, 256]⟩
abbrev S256x128 : Shape := ⟨2, ![256, 128]⟩
abbrev S1x128x128 : Shape := ⟨3, ![1, 128, 128]⟩

abbrev nBuf : Space → Nat
  | .hbm => 24
  | .vmem => 18
  | .smem => 0
  | _ => 0

abbrev bufTy : (tb : Table) → Fin (tcTables nBuf tb) → BufTy
  | .hbm, ⟨0, _⟩ => ⟨S65536x9728, .bf16⟩
  | .hbm, ⟨1, _⟩ => ⟨S65536x128, .f32⟩
  | .hbm, ⟨2, _⟩ => ⟨S4x2048, .f32⟩
  | .hbm, ⟨3, _⟩ => ⟨S2048, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S1024, .f32⟩
  | .hbm, ⟨8, _⟩ => ⟨S1024x1024, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S16x64, .f32⟩
  | .hbm, ⟨18, _⟩ => ⟨S1024, .f32⟩
  | .hbm, ⟨19, _⟩ => ⟨S1x1024, .f32⟩
  | .hbm, ⟨20, _⟩ => ⟨S1x2048, .f32⟩
  | .hbm, ⟨21, _⟩ => ⟨S1x1024, .f32⟩
  | .hbm, ⟨22, _⟩ => ⟨S1024x1024, .bf16⟩
  | .hbm, ⟨23, _⟩ => ⟨S65536x1024, .bf16⟩
  | .local _ .vmem, ⟨0, _⟩ => ⟨S128x2048, .bf16⟩
  | .local _ .vmem, ⟨1, _⟩ => ⟨S128x2048, .bf16⟩
  | .local _ .vmem, ⟨2, _⟩ => ⟨S128x1024, .bf16⟩
  | .local _ .vmem, ⟨3, _⟩ => ⟨S128x1024, .bf16⟩
  | .local _ .vmem, ⟨4, _⟩ => ⟨S128x128, .f32⟩
  | .local _ .vmem, ⟨5, _⟩ => ⟨S128x128, .f32⟩
  | .local _ .vmem, ⟨6, _⟩ => ⟨S4x2048, .f32⟩
  | .local _ .vmem, ⟨7, _⟩ => ⟨S1x2048, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S128x1024, .bf16⟩
  | .local _ .vmem, ⟨14, _⟩ => ⟨S128x1024, .bf16⟩
  | .local _ .vmem, ⟨15, _⟩ => ⟨S8x128x128, .f32⟩
  | .local _ .vmem, ⟨16, _⟩ => ⟨S136x2048, .f32⟩
  | .local _ .vmem, ⟨17, _⟩ => ⟨S128x1024, .f32⟩
  | _, _ => ⟨S65536x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SsdReferenceIdeal.lean ====
abbrev S65536x9728 : Shape := ⟨2, ![65536, 9728]⟩
abbrev S65536x128 : Shape := ⟨2, ![65536, 128]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S1024x1024 : Shape := ⟨2, ![1024, 1024]⟩
abbrev S65536x1024 : Shape := ⟨2, ![65536, 1024]⟩
abbrev S65536x2048 : Shape := ⟨2, ![65536, 2048]⟩
abbrev S32x2048x2048 : Shape := ⟨3, ![32, 2048, 2048]⟩
abbrev S_ : Shape := ⟨0, ![]⟩
abbrev S32x2051x2048 : Shape := ⟨3, ![32, 2051, 2048]⟩
abbrev S1x2048 : Shape := ⟨2, ![1, 2048]⟩
abbrev S1x1x2048 : Shape := ⟨3, ![1, 1, 2048]⟩
abbrev S32x2048x1024 : Shape := ⟨3, ![32, 2048, 1024]⟩
abbrev S32x2048x512 : Shape := ⟨3, ![32, 2048, 512]⟩
abbrev S65536x16 : Shape := ⟨2, ![65536, 16]⟩
abbrev S1x16 : Shape := ⟨2, ![1, 16]⟩
abbrev S512x128x16x64 : Shape := ⟨4, ![512, 128, 16, 64]⟩
abbrev S512x128x16 : Shape := ⟨3, ![512, 128, 16]⟩
abbrev S512x128x4x128 : Shape := ⟨4, ![512, 128, 4, 128]⟩
abbrev S512x128x4x4x128 : Shape := ⟨5, ![512, 128, 4, 4, 128]⟩
abbrev S512x128x16x128 : Shape := ⟨4, ![512, 128, 16, 128]⟩
abbrev S512x128x16x1 : Shape := ⟨4, ![512, 128, 16, 1]⟩
abbrev S128x128 : Shape := ⟨2, ![128, 128]⟩
abbrev S128x128x1 : Shape := ⟨3, ![128, 128, 1]⟩
abbrev S1x1x16 : Shape := ⟨3, ![1, 1, 16]⟩
abbrev S512x1x128x16 : Shape := ⟨4, ![512, 1, 128, 16]⟩
abbrev S512x128x128x16 : Shape := ⟨4, ![512, 128, 128, 16]⟩
abbrev S512x128x1x16 : Shape := ⟨4, ![512, 128, 1, 16]⟩
abbrev S512x16x128x128 : Shape := ⟨4, ![512, 16, 128, 128]⟩
abbrev S512x16x128x64 : Shape := ⟨4, ![512, 16, 128, 64]⟩
abbrev S512x1x16 : Shape := ⟨3, ![512, 1, 16]⟩
abbrev S512x16 : Shape := ⟨2, ![512, 16]⟩
abbrev S32x16x16x128x64 : Shape := ⟨5, ![32, 16, 16, 128, 64]⟩
abbrev S32x16x16 : Shape := ⟨3, ![32, 16, 16]⟩
abbrev S32x16x128x64 : Shape := ⟨4, ![32, 16, 128, 64]⟩
abbrev S32x1x16 : Shape := ⟨3, ![32, 1, 16]⟩
abbrev S32x16 : Shape := ⟨2, ![32, 16]⟩
abbrev S32x16x1x1 : Shape := ⟨4, ![32, 16, 1, 1]⟩
abbrev S32x1x16x128x64 : Shape := ⟨5, ![32, 1, 16, 128, 64]⟩
abbrev S16x1 : Shape := ⟨2, ![16, 1]⟩
abbrev S1x1x16x1 : Shape := ⟨4, ![1, 1, 16, 1]⟩
abbrev S65536x4x256 : Shape := ⟨3, ![65536, 4, 256]⟩
abbrev S65536x4 : Shape := ⟨2, ![65536, 4]⟩
abbrev S65536x4x1 : Shape := ⟨3, ![65536, 4, 1]⟩
abbrev S1x1024 : Shape := ⟨2, ![1, 1024]⟩

abbrev nBuf : Space → Nat
  | .hbm => 323
  | .vmem => 0
  | .smem => 0
  | _ => 0

abbrev hbmTy0_0 (i : Nat) : BufTy := match i % 128 with
  | 0 => ⟨S65536x9728, .bf16⟩
  | 1 => ⟨S65536x128, .f32⟩
  | 2 => ⟨S4x2048, .f32⟩
  | 3 => ⟨S2048, .f32⟩
  | 4 => ⟨S16, .f32⟩
  | 5 => ⟨S16, .f32⟩
  | 6 => ⟨S16, .f32⟩
  | 7 => ⟨S1024, .f32⟩
  | 8 => ⟨S1024x1024, .f32⟩
  | 9 => ⟨S65536x1024, .bf16⟩
  | 10 => ⟨S65536x1024, .f32⟩
  | 11 => ⟨S65536x2048, .bf16⟩
  | 12 => ⟨S65536x2048, .f32⟩
  | 13 => ⟨S32x2048x2048, .f32⟩
  | 14 => ⟨S_, .i32⟩
  | 15 => ⟨S_, .f32⟩
  | 16 => ⟨S32x2051x2048, .f32⟩
  | 17 => ⟨S_, .f32⟩
  | 18 => ⟨S32x2048x2048, .f32⟩
  | 19 => ⟨S1x2048, .f32⟩
  | 20 => ⟨S2048, .f32⟩
  | 21 => ⟨S32x2048x2048, .f32⟩
  | 22 => ⟨S1x1x2048, .f32⟩
  | 23 => ⟨S32x2048x2048, .f32⟩
  | 24 => ⟨S32x2048x2048, .f32⟩
  | 25 => ⟨S32x2048x2048, .f32⟩
  | 26 => ⟨S1x2048, .f32⟩
  | 27 => ⟨S2048, .f32⟩
  | 28 => ⟨S32x2048x2048, .f32⟩
  | 29 => ⟨S1x1x2048, .f32⟩
  | 30 => ⟨S32x2048x2048, .f32⟩
  | 31 => ⟨S32x2048x2048, .f32⟩
  | 32 => ⟨S32x2048x2048, .f32⟩
  | 33 => ⟨S1x2048, .f32⟩
  | 34 => ⟨S2048, .f32⟩
  | 35 => ⟨S32x2048x2048, .f32⟩
  | 36 => ⟨S1x1x2048, .f32⟩
  | 37 => ⟨S32x2048x2048, .f32⟩
  | 38 => ⟨S32x2048x2048, .f32⟩
  | 39 => ⟨S32x2048x2048, .f32⟩
  | 40 => ⟨S1x2048, .f32⟩
  | 41 => ⟨S2048, .f32⟩
  | 42 => ⟨S32x2048x2048, .f32⟩
  | 43 => ⟨S1x1x2048, .f32⟩
  | 44 => ⟨S32x2048x2048, .f32⟩
  | 45 => ⟨S32x2048x2048, .f32⟩
  | 46 => ⟨S32x2048x2048, .f32⟩
  | 47 => ⟨S1x1x2048, .f32⟩
  | 48 => ⟨S32x2048x2048, .f32⟩
  | 49 => ⟨S32x2048x2048, .f32⟩
  | 50 => ⟨S32x2048x2048, .f32⟩
  | 51 => ⟨S32x2048x2048, .f32⟩
  | 52 => ⟨S_, .f32⟩
  | 53 => ⟨S32x2048x2048, .f32⟩
  | 54 => ⟨S32x2048x2048, .f32⟩
  | 55 => ⟨S_, .f32⟩
  | 56 => ⟨S32x2048x2048, .f32⟩
  | 57 => ⟨S32x2048x2048, .f32⟩
  | 58 => ⟨S32x2048x2048, .f32⟩
  | 59 => ⟨S32x2048x1024, .f32⟩
  | 60 => ⟨S32x2048x512, .f32⟩
  | 61 => ⟨S32x2048x512, .f32⟩
  | 62 => ⟨S65536x16, .f32⟩
  | 63 => ⟨S1x16, .f32⟩
  | 64 => ⟨S65536x16, .f32⟩
  | 65 => ⟨S65536x16, .f32⟩
  | 66 => ⟨S_, .f32⟩
  | 67 => ⟨S65536x16, .f32⟩
  | 68 => ⟨S65536x16, .f32⟩
  | 69 => ⟨S65536x16, .f32⟩
  | 70 => ⟨S65536x16, .f32⟩
  | 71 => ⟨S65536x16, .f32⟩
  | 72 => ⟨S65536x16, .f32⟩
  | 73 => ⟨S65536x16, .f32⟩
  | 74 => ⟨S16, .f32⟩
  | 75 => ⟨S16, .f32⟩
  | 76 => ⟨S512x128x16x64, .f32⟩
  | 77 => ⟨S512x128x16, .f32⟩
  | 78 => ⟨S512x128x4x128, .f32⟩
  | 79 => ⟨S512x128x4x4x128, .f32⟩
  | 80 => ⟨S512x128x16x128, .f32⟩
  | 81 => ⟨S512x128x4x128, .f32⟩
  | 82 => ⟨S512x128x4x4x128, .f32⟩
  | 83 => ⟨S512x128x16x128, .f32⟩
  | 84 => ⟨S512x128x16x1, .f32⟩
  | 85 => ⟨S512x128x16x64, .f32⟩
  | 86 => ⟨S512x128x16x64, .f32⟩
  | 87 => ⟨S_, .i1⟩
  | 88 => ⟨S128x128, .i1⟩
  | 89 => ⟨S128x128, .i32⟩
  | 90 => ⟨S_, .i32⟩
  | 91 => ⟨S128x128, .i32⟩
  | 92 => ⟨S128x128, .i32⟩
  | 93 => ⟨S128x128, .i32⟩
  | 94 => ⟨S128x128, .i1⟩
  | 95 => ⟨S_, .i1⟩
  | 96 => ⟨S128x128, .i1⟩
  | 97 => ⟨S128x128, .i1⟩
  | 98 => ⟨S128x128x1, .i1⟩
  | 99 => ⟨S1x1x16, .f32⟩
  | 100 => ⟨S512x128x16, .f32⟩
  | 101 => ⟨S512x128x16, .f32⟩
  | 102 => ⟨S512x1x128x16, .f32⟩
  | 103 => ⟨S_, .f32⟩
  | 104 => ⟨S_, .f32⟩
  | 105 => ⟨S512x128x128x16, .i1⟩
  | 106 => ⟨S512x128x128x16, .f32⟩
  | 107 => ⟨S512x128x128x16, .f32⟩
  | 108 => ⟨S512x128x128x16, .f32⟩
  | 109 => ⟨S_, .f32⟩
  | 110 => ⟨S512x128x16, .f32⟩
  | 111 => ⟨S512x128x1x16, .f32⟩
  | 112 => ⟨S512x1x128x16, .f32⟩
  | 113 => ⟨S512x128x128x16, .f32⟩
  | 114 => ⟨S512x128x128x16, .f32⟩
  | 115 => ⟨S512x128x128x16, .f32⟩
  | 116 => ⟨S128x128x1, .i1⟩
  | 117 => ⟨S512x128x128x16, .f32⟩
  | 118 => ⟨S_, .f32⟩
  | 119 => ⟨S_, .f32⟩
  | 120 => ⟨S512x128x128x16, .i1⟩
  | 121 => ⟨S512x128x128x16, .f32⟩
  | 122 => ⟨S512x128x128x16, .f32⟩
  | 123 => ⟨S512x16x128x128, .f32⟩
  | 124 => ⟨S512x16x128x128, .f32⟩
  | 125 => ⟨S512x16x128x128, .f32⟩
  | 126 => ⟨S512x16x128x64, .f32⟩
  | 127 => ⟨S512x1x16, .f32⟩
  | _ => ⟨S65536x9728, .bf16⟩

abbrev hbmTy0_1 (i : Nat) : BufTy := match i % 128 with
  | 0 => ⟨S512x128x16, .f32⟩
  | 1 => ⟨S512x128x16, .f32⟩
  | 2 => ⟨S512x128x16, .f32⟩
  | 3 => ⟨S512x128x16x1, .f32⟩
  | 4 => ⟨S512x128x16x64, .f32⟩
  | 5 => ⟨S512x128x16x64, .f32⟩
  | 6 => ⟨S512x16x128x64, .f32⟩
  | 7 => ⟨S512x16, .f32⟩
  | 8 => ⟨S512x16, .f32⟩
  | 9 => ⟨S32x16x16x128x64, .f32⟩
  | 10 => ⟨S32x16x16, .f32⟩
  | 11 => ⟨S_, .f32⟩
  | 12 => ⟨S32x16x128x64, .f32⟩
  | 13 => ⟨S32x1x16, .f32⟩
  | 14 => ⟨S32x16, .f32⟩
  | 15 => ⟨S32x16x1x1, .f32⟩
  | 16 => ⟨S32x16x128x64, .f32⟩
  | 17 => ⟨S32x16x128x64, .f32⟩
  | 18 => ⟨S32x1x16x128x64, .f32⟩
  | 19 => ⟨S32x16x128x64, .f32⟩
  | 20 => ⟨S32x16x128x64, .f32⟩
  | 21 => ⟨S32x1x16, .f32⟩
  | 22 => ⟨S32x16, .f32⟩
  | 23 => ⟨S32x16x1x1, .f32⟩
  | 24 => ⟨S32x16x128x64, .f32⟩
  | 25 => ⟨S32x16x128x64, .f32⟩
  | 26 => ⟨S32x1x16x128x64, .f32⟩
  | 27 => ⟨S32x16x128x64, .f32⟩
  | 28 => ⟨S32x16x128x64, .f32⟩
  | 29 => ⟨S32x1x16, .f32⟩
  | 30 => ⟨S32x16, .f32⟩
  | 31 => ⟨S32x16x1x1, .f32⟩
  | 32 => ⟨S32x16x128x64, .f32⟩
  | 33 => ⟨S32x16x128x64, .f32⟩
  | 34 => ⟨S32x1x16x128x64, .f32⟩
  | 35 => ⟨S32x16x128x64, .f32⟩
  | 36 => ⟨S32x16x128x64, .f32⟩
  | 37 => ⟨S32x1x16, .f32⟩
  | 38 => ⟨S32x16, .f32⟩
  | 39 => ⟨S32x16x1x1, .f32⟩
  | 40 => ⟨S32x16x128x64, .f32⟩
  | 41 => ⟨S32x16x128x64, .f32⟩
  | 42 => ⟨S32x1x16x128x64, .f32⟩
  | 43 => ⟨S32x16x128x64, .f32⟩
  | 44 => ⟨S32x16x128x64, .f32⟩
  | 45 => ⟨S32x1x16, .f32⟩
  | 46 => ⟨S32x16, .f32⟩
  | 47 => ⟨S32x16x1x1, .f32⟩
  | 48 => ⟨S32x16x128x64, .f32⟩
  | 49 => ⟨S32x16x128x64, .f32⟩
  | 50 => ⟨S32x1x16x128x64, .f32⟩
  | 51 => ⟨S32x16x128x64, .f32⟩
  | 52 => ⟨S32x16x128x64, .f32⟩
  | 53 => ⟨S32x1x16, .f32⟩
  | 54 => ⟨S32x16, .f32⟩
  | 55 => ⟨S32x16x1x1, .f32⟩
  | 56 => ⟨S32x16x128x64, .f32⟩
  | 57 => ⟨S32x16x128x64, .f32⟩
  | 58 => ⟨S32x1x16x128x64, .f32⟩
  | 59 => ⟨S32x16x128x64, .f32⟩
  | 60 => ⟨S32x16x128x64, .f32⟩
  | 61 => ⟨S32x1x16, .f32⟩
  | 62 => ⟨S32x16, .f32⟩
  | 63 => ⟨S32x16x1x1, .f32⟩
  | 64 => ⟨S32x16x128x64, .f32⟩
  | 65 => ⟨S32x16x128x64, .f32⟩
  | 66 => ⟨S32x1x16x128x64, .f32⟩
  | 67 => ⟨S32x16x128x64, .f32⟩
  | 68 => ⟨S32x16x128x64, .f32⟩
  | 69 => ⟨S32x1x16, .f32⟩
  | 70 => ⟨S32x16, .f32⟩
  | 71 => ⟨S32x16x1x1, .f32⟩
  | 72 => ⟨S32x16x128x64, .f32⟩
  | 73 => ⟨S32x16x128x64, .f32⟩
  | 74 => ⟨S32x1x16x128x64, .f32⟩
  | 75 => ⟨S32x16x128x64, .f32⟩
  | 76 => ⟨S32x16x128x64, .f32⟩
  | 77 => ⟨S32x1x16, .f32⟩
  | 78 => ⟨S32x16, .f32⟩
  | 79 => ⟨S32x16x1x1, .f32⟩
  | 80 => ⟨S32x16x128x64, .f32⟩
  | 81 => ⟨S32x16x128x64, .f32⟩
  | 82 => ⟨S32x1x16x128x64, .f32⟩
  | 83 => ⟨S32x16x128x64, .f32⟩
  | 84 => ⟨S32x16x128x64, .f32⟩
  | 85 => ⟨S32x1x16, .f32⟩
  | 86 => ⟨S32x16, .f32⟩
  | 87 => ⟨S32x16x1x1, .f32⟩
  | 88 => ⟨S32x16x128x64, .f32⟩
  | 89 => ⟨S32x16x128x64, .f32⟩
  | 90 => ⟨S32x1x16x128x64, .f32⟩
  | 91 => ⟨S32x16x128x64, .f32⟩
  | 92 => ⟨S32x16x128x64, .f32⟩
  | 93 => ⟨S32x1x16, .f32⟩
  | 94 => ⟨S32x16, .f32⟩
  | 95 => ⟨S32x16x1x1, .f32⟩
  | 96 => ⟨S32x16x128x64, .f32⟩
  | 97 => ⟨S32x16x128x64, .f32⟩
  | 98 => ⟨S32x1x16x128x64, .f32⟩
  | 99 => ⟨S32x16x128x64, .f32⟩
  | 100 => ⟨S32x16x128x64, .f32⟩
  | 101 => ⟨S32x1x16, .f32⟩
  | 102 => ⟨S32x16, .f32⟩
  | 103 => ⟨S32x16x1x1, .f32⟩
  | 104 => ⟨S32x16x128x64, .f32⟩
  | 105 => ⟨S32x16x128x64, .f32⟩
  | 106 => ⟨S32x1x16x128x64, .f32⟩
  | 107 => ⟨S32x16x128x64, .f32⟩
  | 108 => ⟨S32x16x128x64, .f32⟩
  | 109 => ⟨S32x1x16, .f32⟩
  | 110 => ⟨S32x16, .f32⟩
  | 111 => ⟨S32x16x1x1, .f32⟩
  | 112 => ⟨S32x16x128x64, .f32⟩
  | 113 => ⟨S32x16x128x64, .f32⟩
  | 114 => ⟨S32x1x16x128x64, .f32⟩
  | 115 => ⟨S32x16x128x64, .f32⟩
  | 116 => ⟨S32x16x128x64, .f32⟩
  | 117 => ⟨S32x1x16, .f32⟩
  | 118 => ⟨S32x16, .f32⟩
  | 119 => ⟨S32x16x1x1, .f32⟩
  | 120 => ⟨S32x16x128x64, .f32⟩
  | 121 => ⟨S32x16x128x64, .f32⟩
  | 122 => ⟨S32x1x16x128x64, .f32⟩
  | 123 => ⟨S32x16x128x64, .f32⟩
  | 124 => ⟨S32x16x128x64, .f32⟩
  | 125 => ⟨S32x1x16, .f32⟩
  | 126 => ⟨S32x16, .f32⟩
  | 127 => ⟨S32x16x1x1, .f32⟩
  | _ => ⟨S65536x9728, .bf16⟩

abbrev hbmTy0_2 (i : Nat) : BufTy := match i % 128 with
  | 0 => ⟨S32x16x128x64, .f32⟩
  | 1 => ⟨S32x16x128x64, .f32⟩
  | 2 => ⟨S32x1x16x128x64, .f32⟩
  | 3 => ⟨S32x16x128x64, .f32⟩
  | 4 => ⟨S32x16x128x64, .f32⟩
  | 5 => ⟨S32x1x16x128x64, .f32⟩
  | 6 => ⟨S32x1x16x128x64, .f32⟩
  | 7 => ⟨S32x1x16x128x64, .f32⟩
  | 8 => ⟨S32x1x16x128x64, .f32⟩
  | 9 => ⟨S32x1x16x128x64, .f32⟩
  | 10 => ⟨S32x1x16x128x64, .f32⟩
  | 11 => ⟨S32x1x16x128x64, .f32⟩
  | 12 => ⟨S32x1x16x128x64, .f32⟩
  | 13 => ⟨S32x1x16x128x64, .f32⟩
  | 14 => ⟨S32x1x16x128x64, .f32⟩
  | 15 => ⟨S32x1x16x128x64, .f32⟩
  | 16 => ⟨S32x1x16x128x64, .f32⟩
  | 17 => ⟨S32x1x16x128x64, .f32⟩
  | 18 => ⟨S32x1x16x128x64, .f32⟩
  | 19 => ⟨S32x1x16x128x64, .f32⟩
  | 20 => ⟨S32x1x16x128x64, .f32⟩
  | 21 => ⟨S32x16x16x128x64, .f32⟩
  | 22 => ⟨S512x16x128x64, .f32⟩
  | 23 => ⟨S512x16x128x64, .f32⟩
  | 24 => ⟨S512x128x16, .f32⟩
  | 25 => ⟨S512x128x16x1, .f32⟩
  | 26 => ⟨S512x128x16x64, .f32⟩
  | 27 => ⟨S512x128x16x64, .f32⟩
  | 28 => ⟨S512x128x16x64, .f32⟩
  | 29 => ⟨S512x128x16x64, .f32⟩
  | 30 => ⟨S512x128x16x64, .f32⟩
  | 31 => ⟨S16x1, .f32⟩
  | 32 => ⟨S1x1x16x1, .f32⟩
  | 33 => ⟨S512x128x16x64, .f32⟩
  | 34 => ⟨S512x128x16x64, .f32⟩
  | 35 => ⟨S512x128x16x64, .f32⟩
  | 36 => ⟨S65536x1024, .f32⟩
  | 37 => ⟨S65536x1024, .f32⟩
  | 38 => ⟨S65536x1024, .f32⟩
  | 39 => ⟨S_, .f32⟩
  | 40 => ⟨S65536x1024, .f32⟩
  | 41 => ⟨S65536x1024, .f32⟩
  | 42 => ⟨S_, .f32⟩
  | 43 => ⟨S65536x1024, .f32⟩
  | 44 => ⟨S65536x1024, .f32⟩
  | 45 => ⟨S65536x1024, .f32⟩
  | 46 => ⟨S65536x1024, .f32⟩
  | 47 => ⟨S65536x4x256, .f32⟩
  | 48 => ⟨S65536x4x256, .f32⟩
  | 49 => ⟨S_, .f32⟩
  | 50 => ⟨S65536x4, .f32⟩
  | 51 => ⟨S65536x4x1, .f32⟩
  | 52 => ⟨S_, .f32⟩
  | 53 => ⟨S65536x4x1, .f32⟩
  | 54 => ⟨S65536x4x1, .f32⟩
  | 55 => ⟨S_, .f32⟩
  | 56 => ⟨S65536x4x1, .f32⟩
  | 57 => ⟨S65536x4x1, .f32⟩
  | 58 => ⟨S65536x4x1, .f32⟩
  | 59 => ⟨S65536x4x256, .f32⟩
  | 60 => ⟨S65536x4x256, .f32⟩
  | 61 => ⟨S65536x1024, .f32⟩
  | 62 => ⟨S1x1024, .f32⟩
  | 63 => ⟨S65536x1024, .f32⟩
  | 64 => ⟨S65536x1024, .f32⟩
  | 65 => ⟨S65536x1024, .f32⟩
  | 66 => ⟨S65536x1024, .bf16⟩
  | _ => ⟨S65536x9728, .bf16⟩

abbrev hbmTy (i : Nat) : BufTy := match i / 128 with
  | 0 => hbmTy0_0 i
  | 1 => hbmTy0_1 i
  | 2 => hbmTy0_2 i
  | _ => ⟨S65536x9728, .bf16⟩

abbrev bufTy : (tb : Table) → Fin (tcTables nBuf tb) → BufTy
  | .hbm, ⟨i, _⟩ => hbmTy i
  | _, _ => ⟨S65536x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_0 : Ref sig .tc := ⟨.hbm, 52, rfl⟩
abbrev main_v40 : Ref sig .tc := ⟨.hbm, 53, rfl⟩
abbrev main_v41 : Ref sig .tc := ⟨.hbm, 54, rfl⟩
abbrev main_cst_1 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_2 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_c_3 : Ref sig .tc := ⟨.hbm, 87, rfl⟩
abbrev main_v72 : Ref sig .tc := ⟨.hbm, 88, rfl⟩
abbrev main_call1_v0 : Ref sig .tc := ⟨.hbm, 89, rfl⟩
abbrev main_call1_c : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_c_0 : Ref sig .tc := ⟨.hbm, 95, rfl⟩
abbrev main_call1_v5 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_4 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_v79 : Ref sig .tc := ⟨.hbm, 108, rfl⟩
abbrev main_cst_5 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_6 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_7 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_cst_8 : Ref sig .tc := ⟨.hbm, 295, rfl⟩
abbrev main_v260 : Ref sig .tc := ⟨.hbm, 296, rfl⟩
abbrev main_v261 : Ref sig .tc := ⟨.hbm, 297, rfl⟩
abbrev main_cst_9 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_cst_10 : Ref sig .tc := ⟨.hbm, 305, rfl⟩
abbrev main_v268 : Ref sig .tc := ⟨.hbm, 306, rfl⟩
abbrev main_v269 : Ref sig .tc := ⟨.hbm, 307, rfl⟩
abbrev main_cst_11 : Ref sig .tc := ⟨.hbm, 308, rfl⟩
abbrev main_v270 : Ref sig .tc := ⟨.hbm, 309, rfl⟩
abbrev main_v271 : Ref sig .tc := ⟨.hbm, 310, rfl⟩
abbrev main_cst_12 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩

abbrev nD : Nat := 1
abbrev τ : Topo := Topo.v7x

variable {F : FTy → Type} [FloatOps F]
-- ==== Proof.InBody.lean ====
/- The input projection's launch: what its body leaves at every grid point, and the run of the whole program.

   The grid is 64 row blocks by 19 column blocks.  At the first column of a row block the body rounds the block of `x`
   into a scratch buffer and stores the step projection; at every column it multiplies the scratch by the column's weights.
   Between two first columns neither the scratch nor the step block changes. -/
module

public import proofs.«01_k».proof.Proof.Gen.InProjIdeal.Frame
public import proofs.«01_k».proof.Proof.Gen.InProjIdeal.Skeleton
public import proofs.«01_k».proof.Proof.Gen.InProjIdeal.Points
public import Idealize.ShloMosaic.Lib.Claim
public import Idealize.ShloMosaic.Lib.WordCmp
public import Idealize.ShloMosaic.Lib.VecWindow

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The body on any buffers -/

/-- The body's condition at coordinates `i`: the column block is the first. -/
abbrev First (i : grid0.Coords) : Prop := k0_cond1 i = 1#1

/-- The first column blocks are the points divisible by 19. -/
theorem first_iff (t : Fin grid0.N) : First (grid0.coords t) ↔ t.val % 19 = 0 := by
  have ht : t.val < 1216 := Nat.lt_of_lt_of_eq t.isLt N_0
  have e1 : (grid0.coords t 1).val = t.val / 1 % 19 := Pipeline.Grid.coords_val t 1 (by decide) rfl
  simp only [First, k0_cond1, e1]
  word_cmp

section Triple

variable (c : Dev nD) (i : grid0.Coords)
  (a2 : Memref sig .tc .vmem S1024x1024 .f32) (h2 : a2.IsWhole) (a3 : Memref sig .tc .vmem S1024x512 .bf16) (h3 : a3.IsWhole)
  (a4 : Memref sig .tc .vmem S1024x128 .bf16) (h4 : a4.IsWhole) (a5 : Memref sig .tc .vmem S1024x512 .bf16) (h5 : a5.IsWhole)
  (a6 : Memref sig .tc .vmem S1024x128 .f32) (h6 : a6.IsWhole) (a7 : Memref sig .tc .vmem S1024x1024 .bf16) (h7 : a7.IsWhole)
  (x : Vec F S1024x1024 .f32) (w : Vec F S1024x512 .bf16) (wd : Vec F S1024x128 .bf16)

set_option maxHeartbeats 1000000 in
/-- At a first column the body rounds `x` into the scratch, and stores the step projection and the column's product. -/
theorem first_run (hc : First i) (E : Set ℕ) (K : PUnit → sProp 𝕄) :
    iprop(owns (c : Thread nD τ) a2 fullShare x ∗ owns (c : Thread nD τ) a3 fullShare w ∗ owns (c : Thread nD τ) a4 fullShare wd
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a2 fullShare x ∗ owns (c : Thread nD τ) a3 fullShare w ∗ owns (c : Thread nD τ) a4 fullShare wd
            ∗ owns (c : Thread nD τ) a5 fullShare (k0_pay4 (k0_pay2 x) w) ∗ owns (c : Thread nD τ) a6 fullShare (k0_pay3 x wd)
            ∗ owns (c : Thread nD τ) a7 fullShare (k0_pay2 x)) -∗ K ⟨⟩))
      ⊢ wp frame (wpE (defs₀ (F := F)) Variants.none c none) E (cc0_in_projection i a2 h2 a3 h3 a4 h4 a5 h5 a6 h6 a7 h7) K := by
  simp only [cc0_in_projection_eq_skeleton]; unfold cc0_in_projection_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := h2.eq_unread hf0; obtain rfl := h3.eq_unread hf1; obtain rfl := h4.eq_unread hf2
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; swap; · iexact H3
    ipureintro
    rw [View.read_writes_full, View.readAt_full, h3.read_unread]
    delta first_run.sl.v3 first_run.sl.H5_1
    rw [View.readCov_full, View.readAt_full, h2.read_unread]
  isplitl [H4]
  · iexists _; isplitr; swap; · iexact H4
    ipureintro
    rw [View.read_writes_full, View.readAt_full, View.readAt_full, h2.read_unread, h4.read_unread]
  iexists _; isplitr; swap; · iexact H5
  ipureintro
  delta first_run.sl.H5_1
  rw [View.read_writes_full, View.readAt_full, h2.read_unread]

set_option maxHeartbeats 1000000 in
/-- At a later column the body multiplies the scratch's contents by the column's weights, and leaves the rest. -/
theorem later_run (hc : ¬First i) (xb : Vec F S1024x1024 .bf16) (dt : Vec F S1024x128 .f32) (E : Set ℕ) (K : PUnit → sProp 𝕄) :
    iprop(owns (c : Thread nD τ) a2 fullShare x ∗ owns (c : Thread nD τ) a3 fullShare w ∗ owns (c : Thread nD τ) a4 fullShare wd
        ∗ (∃ d, owns (c : Thread nD τ) a5 fullShare d) ∗ owns (c : Thread nD τ) a6 fullShare dt
        ∗ owns (c : Thread nD τ) a7 fullShare xb
        ∗ (iprop(owns (c : Thread nD τ) a2 fullShare x ∗ owns (c : Thread nD τ) a3 fullShare w ∗ owns (c : Thread nD τ) a4 fullShare wd
            ∗ owns (c : Thread nD τ) a5 fullShare (k0_pay4 xb w) ∗ owns (c : Thread nD τ) a6 fullShare dt
            ∗ owns (c : Thread nD τ) a7 fullShare xb) -∗ K ⟨⟩))
      ⊢ wp frame (wpE (defs₀ (F := F)) Variants.none c none) E (cc0_in_projection i a2 h2 a3 h3 a4 h4 a5 h5 a6 h6 a7 h7) K := by
  simp only [cc0_in_projection_eq_skeleton]; unfold cc0_in_projection_skel
  unfold owns
  iintro ⟨⟨%f0, %hf0, H0⟩, ⟨%f1, %hf1, H1⟩, H2, ⟨%d3, %f3, -, H3⟩, H4, ⟨%f5, %hf5, H5⟩, Hk⟩
  obtain rfl := h2.eq_unread hf0; obtain rfl := h3.eq_unread hf1; obtain rfl := h7.eq_unread hf5
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]; · iexact H2
  isplitl [H3]
  · iexists _; isplitr; swap; · iexact H3
    ipureintro
    rw [View.read_writes_full, View.readAt_full, View.readAt_full, h7.read_unread, h3.read_unread]
  isplitl [H4]; · iexact H4
  iexists _; isplitr; · ipureintro; exact h7.read_unread _
  iexact H5

end Triple

/-! ## The launch's data -/

variable (m : (ℓ : Loc nD τ sig) → Buf (Elt F) ℓ) (ρ : Dev nD → PrngReg) (c : Dev nD)

/-- The first point of the row block of position `n`. -/
def rowStart (n : ℕ) (h : n < cfg0.N) : Fin cfg0.N := ⟨19 * (n / 19), by omega⟩

/-- A first column's point starts its own row block. -/
theorem rowStart_self (t : Fin cfg0.N) (h : t.val % 19 = 0) : rowStart t.val t.isLt = t := Fin.ext (by simp only [rowStart]; omega)

/-- A later column's point is in the row block of the point before. -/
theorem rowStart_pred (n : ℕ) (h : n < cfg0.N) (h0 : ¬n % 19 = 0) : rowStart (n - 1) (by omega) = rowStart n h :=
  Fin.ext (by simp only [rowStart]; omega)

/-- The rounded block of `x` of the row block at position `n`. -/
def xRow (n : ℕ) (h : n < cfg0.N) : Vec F S1024x1024 .bf16 := k0_pay2 (iblk m c 0 (rowStart n h))

/-- The step projection of the row block at position `n`. -/
def dtRow (n : ℕ) (h : n < cfg0.N) : Vec F S1024x128 .f32 := k0_pay3 (iblk m c 0 (rowStart n h)) (iblk m c 2 (rowStart n h))

/-- What the core holds before position `n`: the scratch at the rounded block of the point before, at anything at the start. -/
def Held : (n : ℕ) → n ≤ cfg0.N → sProp 𝕄
  | 0, _ => Pipeline.ΦA spec0 c
  | n + 1, h => iprop(owns (c : Thread nD τ) (Memref.whole cc0_scratch0) fullShare (xRow m c n h) ∗ (∃ r, prngReg c r))

/-- At the start the scratch holds anything. -/
theorem start_eq : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- Past the start the scratch holds the rounded block of the point before. -/
theorem held_pos (n : ℕ) (h : n ≤ cfg0.N) (hz : n ≠ 0) : Held m c n h
    = iprop(owns (c : Thread nD τ) (Memref.whole cc0_scratch0) fullShare (xRow m c (n - 1) (by omega)) ∗ (∃ r, prngReg c r)) := by
  cases n with
  | zero => exact absurd rfl hz
  | succ n => rfl

/-- At any position the scratch holds something. -/
theorem held_some (n : ℕ) (h : n ≤ cfg0.N) : Held m c n h ⊢ Pipeline.ΦA spec0 c := by
  by_cases hz : n = 0
  · subst hz; exact .rfl
  · rw [held_pos m c n h hz, start_eq]
    iintro ⟨H, Hg⟩
    isplitl [H]
    · iexists _; iexact H
    iexact Hg

/-- The launch's data: the inputs' blocks stay, the column's product and the row block's step projection are left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (xRow m c t.val t.isLt) (iblk m c 1 t)
    | ⟨4, _⟩ => dtRow m c t.val t.isLt
  Φ t := Held m c t.val (Nat.le_of_lt_succ t.isLt)
  q _ := fullShare
  owed _ := 0

/-- The launch finds every array as the host operations left it. -/
theorem A_eq (c : Dev nD) (w : Fin cfg0.W) : (dats m 0 c).A w = V m c (Pipeline.arrRef spec0 w) := by dsimp only [dats]

/-- What is held before point `t`. -/
theorem held_castSucc (t : Fin cfg0.N) : (dats m 0 c).Φ t.castSucc = Held m c t.val (Nat.le_of_lt t.isLt) := by
  dsimp only [dats]; exact Pipeline.Dat.Φ_castSucc (Held m c) t

/-- The body leaves the block of `x`. -/
theorem after_x (t : Fin cfg0.N) : (dats m 0 c).after 0 t = iblk m c 0 t := by dsimp only [dats]
/-- The body leaves the block of weights. -/
theorem after_w (t : Fin cfg0.N) : (dats m 0 c).after 1 t = iblk m c 1 t := by dsimp only [dats]
/-- The body leaves the step weights. -/
theorem after_wd (t : Fin cfg0.N) : (dats m 0 c).after 2 t = iblk m c 2 t := by dsimp only [dats]
/-- The body leaves the column's product. -/
theorem after_h (t : Fin cfg0.N) : (dats m 0 c).after 3 t = k0_pay4 (xRow m c t.val t.isLt) (iblk m c 1 t) := by dsimp only [dats]
/-- The body leaves the row block's step projection. -/
theorem after_dt (t : Fin cfg0.N) : (dats m 0 c).after 4 t = dtRow m c t.val t.isLt := by dsimp only [dats]

/-- The body finds the block of `x`. -/
theorem before_x (t : Fin cfg0.N) (d) : (dats m 0 c).before 0 t d = iblk m c 0 t :=
  before0_0_of m (dats m 0 c) (A_eq m c 0) (after_x m c) t d
/-- The body finds the block of weights. -/
theorem before_w (t : Fin cfg0.N) (d) : (dats m 0 c).before 1 t d = iblk m c 1 t :=
  before0_1_of m (dats m 0 c) (A_eq m c 1) (after_w m c) t d
/-- The body finds the step weights. -/
theorem before_wd (t : Fin cfg0.N) (d) : (dats m 0 c).before 2 t d = iblk m c 2 t :=
  before0_2_of m (dats m 0 c) (A_eq m c 2) (after_wd m c) t d
/-- The step block is idle at the later columns. -/
theorem idle_dt (t : Fin cfg0.N) : cfg0.idle 4 (cfg0.grid.coords t) = !decide (t.val % 19 = 0) := by
  show (!(k0_cond1 (grid0.coords t) == 1#1)) = _
  rw [Bool.beq_eq_decide_eq, decide_eq_decide.mpr (first_iff t)]

/-- At a later column the body finds the row block's step projection. -/
theorem before_dt : ∀ (n : ℕ) (h : n < cfg0.N) (_ : ¬n % 19 = 0) (d),
    (dats m 0 c).before 4 ⟨n, h⟩ d = dtRow m c n h
  | 0, _, h0, _ => absurd (Nat.zero_mod 19) h0
  | n + 1, h, h0, d => by
    have hf : (cfg0.win 4).flush ⟨n, Nat.lt_of_succ_lt h⟩ = false :=
      Bool.eq_false_iff.mpr fun h => by have := (flush0_4 _).mp h; dsimp only at this; omega
    rw [Dat.before_of_pos _ 4 ⟨n + 1, h⟩ (Nat.succ_ne_zero n) ((cfg0.win 4).fetch_out rfl _)]
    have e : rowStart n (Nat.lt_of_succ_lt h) = rowStart (n + 1) h := rowStart_pred (n + 1) h h0
    simp only [Nat.add_sub_cancel]
    rw [hf, if_neg Bool.false_ne_true]
    unfold Dat.left
    rw [idle_dt]
    by_cases h1 : n % 19 = 0
    · simp only [h1, decide_true, Bool.not_true]
      unfold Dat.kept
      rw [Pipeline.fill_of_clip_none (cfg := cfg0) 4 _ (fun _ => rfl) d ((dats m 0 c).after 4 _), Pipeline.Window.fill_cut, after_dt]
      unfold dtRow
      rw [e]
    · simp only [h1, decide_false, Bool.not_false]
      rw [before_dt n _ h1]
      unfold dtRow
      rw [e]

/-- What the body leaves of the step block is what the launch asks: the projection at a first column and at a write-back,
    what it found elsewhere. -/
theorem leaves_dt (t : Fin cfg0.N) :
    (owns (c : Thread nD τ) (win0_4.stage (cfg0.slots t 4)) fullShare ((dats m 0 c).after 4 t) : sProp 𝕄) ⊢ (dats m 0 c).leavesExact 4 t := by
  unfold Dat.leavesExact
  rw [idle_dt]
  by_cases h1 : t.val % 19 = 0
  · simp only [h1, decide_true, Bool.not_true]; exact .rfl
  · simp only [h1, decide_false, Bool.not_false]
    cases hf : (cfg0.win 4).flush t
    · simp only [before_dt m c t.val t.isLt h1]
      rw [after_dt]
      iintro H
      iexists fun _ => default
      iexact H
    · exact .rfl

/-! ## The body at every point -/

set_option maxHeartbeats 3200000 in
/-- At every point the body takes what is held before it to what is held after it. -/
theorem body_at (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (win0_0.stage (cfg0.slots t 0)) fullShare ((dats m 0 c).after 0 t)
          ∗ owns (c : Thread nD τ) (win0_1.stage (cfg0.slots t 1)) fullShare ((dats m 0 c).after 1 t)
          ∗ owns (c : Thread nD τ) (win0_2.stage (cfg0.slots t 2)) fullShare ((dats m 0 c).after 2 t)
          ∗ owns (c : Thread nD τ) (win0_3.stage (cfg0.slots t 3)) fullShare ((dats m 0 c).after 3 t)
          ∗ owns (c : Thread nD τ) (win0_4.stage (cfg0.slots t 4)) fullShare ((dats m 0 c).after 4 t))) := by
  unfold bodyAt0
  simp only [before_x, before_w, before_wd]
  rw [show (dats m 0 c).owesAt () t.succ = (dats m 0 c).owesAt () t.castSucc from rfl, after_x, after_w, after_wd, after_h, after_dt,
    show (dats m 0 c).Φ t.succ = iprop(owns (c : Thread nD τ) (Memref.whole cc0_scratch0) fullShare (xRow m c t.val t.isLt)
      ∗ (∃ r, prngReg c r)) from rfl, held_castSucc m c t]
  by_cases h0 : t.val % 19 = 0
  · have hs := held_some m c t.val (Nat.le_of_lt t.isLt)
    rw [start_eq] at hs
    unfold xRow dtRow
    rw [rowStart_self t h0]
    iintro ⟨HΦ, Ho, ⟨%d0, H0⟩, ⟨%d1, H1⟩, ⟨%d2, H2⟩, ⟨%d3, H3⟩, ⟨%d4, H4⟩⟩
    ihave HΦ := hs $$ HΦ
    icases HΦ with ⟨HS, Hg⟩
    iapply (first_run c (grid0.coords t) _ _ _ _ _ _ _ _ _ _ _ _ (iblk m c 0 t) (iblk m c 1 t) (iblk m c 2 t) ((first_iff t).mpr h0) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · rw [held_pos m c _ _ (fun h => h0 (by rw [h]))]
    simp only [before_dt m c t.val t.isLt h0]
    unfold xRow
    rw [rowStart_pred t.val t.isLt h0]
    iintro ⟨⟨HS, Hg⟩, Ho, ⟨%d0, H0⟩, ⟨%d1, H1⟩, ⟨%d2, H2⟩, ⟨%d3, H3⟩, ⟨%d4, H4⟩⟩
    iapply (later_run c (grid0.coords t) _ _ _ _ _ _ _ _ _ _ _ _ (iblk m c 0 t) (iblk m c 1 t) (iblk m c 2 t) (fun h => h0 ((first_iff t).mp h)) _ _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

/-- The launch's body is the printed kernel at the point's buffers. -/
theorem defs₀_row (t : Fin cfg0.N) : defs₀ (F := F) .tc cfg0.body (cfg0.bodyArgs t (cfg0.slots t)) = bodyAt0 t := by
  unfold defs₀; rw [Defs.onTc_tc]

/-- The library's obligation of the body, at every point. -/
theorem body_obligation : BodyObligation (dats (F := F) m 0 c) (defs₀ (F := F)) Variants.none () Set.univ := fun t => by
  rw [bigSep_W0, bigSep_W0, defs₀_row]
  exact triple_restated (body_at m c t) rfl .rfl fun _ =>
    sep_mono .rfl (sep_mono .rfl (sep_mono .rfl (sep_mono .rfl (sep_mono .rfl (sep_mono .rfl (leaves_dt m c t))))))

/-! ## The run -/

-- the run theorem's implicit arguments unify with the statement only by unfolding plain definitions
set_option backward.isDefEq.respectTransparency.types false in
/-- The program terminates with every array of the launch at what its points wrote, and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl)
    (hout := fun c => held_some m c cfg0.N le_rfl)

/-- The program terminates with every array of the launch at what its points wrote. -/
theorem run_main : θ_run defs (onTc (τ := τ) (main (F := F))) (s₀ m ρ) (Pipeline.FramePost cfgs (dats m) 0 (V m)) :=
  (θ_run defs _ _).mono (fun _ h => h.1) (run_quiet m ρ)

/-- The program terminates, leaves its arguments and has every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.InProjIdeal.Body
-- ==== Proof.InRef.lean ====
/- The input projection's mathematics, and the reference's two results at an index. -/
module

public import proofs.«01_k».proof.Proof.Gen.InProjReferenceIdeal.Run
public import Idealize.ShloMosaic.Lib.Pointwise
public import Idealize.ShloMosaic.Lib.Pipeline.ValueKit

@[expose] public section

set_option maxRecDepth 16384

noncomputable section

namespace InProj

open Idealize.ShloMosaic

/-- Column `j` of the projection of row `u`. -/
def proj (x : Fin 65536 → Fin 1024 → EReal) (w : Fin 1024 → Fin 9744 → EReal) (u : Fin 65536) (j : Fin 9744) : EReal :=
  ∑ k : Fin 1024, x u k * w k j

/-- The projection's column that the kernel's column `j` holds: the 16 step columns from 6144 on are left out. -/
def mainCol (j : Fin 9728) : Fin 9744 := ⟨if j.val < 6144 then j.val else j.val + 16, by split <;> omega⟩

/-- A lane of the step projection, padded with zeros after its 16 columns. -/
def stepAt (x : Fin 65536 → Fin 1024 → EReal) (w : Fin 1024 → Fin 9744 → EReal) (u : Fin 65536) (l : Fin 128) : EReal :=
  if h : l.val < 16 then proj x w u ⟨6144 + l.val, by omega⟩ else 0

end InProj

namespace Cert.InProjReferenceIdeal.Value

open Cert.InProjReferenceIdeal Cert.InProjReferenceIdeal.Gen Idealize.ShloMosaic

variable (x : FVec Ideal S65536x1024 .f32) (w : FVec Ideal S1024x9744 .f32)

/-- The reference's product. -/
def prod : FVec Ideal S65536x9744 .f32 := Host.dotGeneral dot_S65536x1024_S1024x9744_S65536x9744_1_0_0_1_n_n none x w

theorem prod_at (u : Fin 65536) (j : Fin 9744) : prod x w (ix2 u j) =
    InProj.proj (fun u k => x (ix2 u k)) (fun k j => w (ix2 k j)) u j := by
  unfold InProj.proj
  pointwise [prod]

/-- The reference's first result, of its product. -/
def mainRes (P : FVec Ideal S65536x9744 .f32) : FVec Ideal S65536x9728 .bf16 :=
  truncf .bf16 (concatenate S65536x9728 1 [⟨S65536x6144, (extractStridedSlice S65536x6144 ![0, 0] P slices_S65536x9744_S65536x6144_0_0)⟩, ⟨S65536x3584, (extractStridedSlice S65536x3584 ![0, 6160] P slices_S65536x9744_S65536x3584_0_6160)⟩] concatenates_S65536x6144_S65536x3584_S65536x9728_d1) bitsLt_bf16_f32

/-- The reference's second result, of its product. -/
def stepRes (P : FVec Ideal S65536x9744 .f32) : FVec Ideal S65536x128 .f32 :=
  pad S65536x128 ![0, 0] ![0, 112] ![0, 0] (extractStridedSlice S65536x16 ![0, 6144] P slices_S65536x9744_S65536x16_0_6144) (sitofp .f32 (constantI S_ 32 0#32)) pads_S65536x16_S65536x128_000_01120 h_S_

theorem mainRes_at (P : FVec Ideal S65536x9744 .f32) (u : Fin 65536) (j : Fin 9728) :
    mainRes P (ix2 u j) = P (ix2 u (InProj.mainCol j)) := by
  pointwise [mainRes]
  unfold InProj.mainCol
  split
  · rfl
  · exact congrArg P (congrArg (ix2 u) (Fin.ext (by show 6160 + (j.val - 6144) = j.val + 16; omega)))

theorem stepRes_at (P : FVec Ideal S65536x9744 .f32) (u : Fin 65536) (l : Fin 128) :
    stepRes P (ix2 u l) = if h : l.val < 16 then P (ix2 u ⟨6144 + l.val, by omega⟩) else 0 := by
  pointwise [stepRes]
  refine dite_congr rfl (fun _ => rfl) fun _ => ?_
  simp [FloatOps.sitofp]

end Cert.InProjReferenceIdeal.Value
-- ==== Proof.InValue.lean ====
/- What the input projection's launch leaves in its two results: the main columns of the projection, and the step columns
   padded with zeros. -/
module

public import proofs.«01_k».proof.Proof.InBody
public import proofs.«01_k».proof.Proof.InRef
public import Idealize.ShloMosaic.Lib.StableHlo.ReadAt
public import Idealize.ShloMosaic.Lib.Pipeline.Covers
public import Idealize.ShloMosaic.Lib.Pipeline.ValueKit
public import Idealize.ShloMosaic.Lib.Pipeline.ReadBack

@[expose] public section

set_option maxRecDepth 16384

noncomputable section

namespace Cert.InProjIdeal.Body

open Cert.InProjIdeal Cert.InProjIdeal.Gen Idealize.ShloMosaic Idealize.ShloMosaic.TcCoe Idealize.SL.Sem

variable (m : (ℓ : Loc nD τ sig) → Buf (Elt Ideal) ℓ) (c : Dev nD) (t : Fin cfg0.N)

/-- The program's arguments as functions of their coordinates. -/
def xArg (u : Fin 65536) (k : Fin 1024) : EReal := (m ((c.tc : Thread nD τ).loc main_arg0) : FVec Ideal S65536x1024 .f32) (ix2 u k)
def wArg (k : Fin 1024) (j : Fin 9744) : EReal := (m ((c.tc : Thread nD τ).loc main_arg1) : FVec Ideal S1024x9744 .f32) (ix2 k j)

/-! ## The arrays the launch reads, as the host operations before it leave them -/

/-- The main weights: the columns of the projection without the step columns. -/
theorem V_main (k : Fin 1024) (j : Fin 9728) : (V m c main_v3 : FVec Ideal S1024x9728 .bf16) (ix2 k j) =
    wArg m c k (InProj.mainCol j) := by
  unfold V
  after_reads_at
  after_reads_at
  unfold wArg InProj.mainCol
  split
  · rfl
  · exact congrArg (m ((c.tc : Thread nD τ).loc main_arg1) : FVec Ideal S1024x9744 .f32)
      (congrArg (ix2 k) (Fin.ext (by show 6160 + (j.val - 6144) = j.val + 16; omega)))

/-- The step weights: 16 columns of the projection, then zeros. -/
theorem V_step (k : Fin 1024) (l : Fin 128) : (V m c main_v6 : FVec Ideal S1024x128 .bf16) (ix2 k l) =
    if h : l.val < 16 then wArg m c k ⟨6144 + l.val, by omega⟩ else 0 := by
  unfold V
  after_reads_at
  refine dite_congr rfl (fun _ => rfl) fun _ => ?_
  simp [FloatOps.sitofp]

/-! ## The windows' blocks -/

theorem index0 : ∀ t : Fin cfg0.N, win0_0.index t 0 = t.val / 19 ∧ win0_0.index t 1 = 0 :=
  (by decide +kernel : ∀ t : Fin grid0.N, win0_0.index t 0 = t.val / 19 ∧ win0_0.index t 1 = 0)
theorem index1 : ∀ t : Fin cfg0.N, win0_1.index t 0 = 0 ∧ win0_1.index t 1 = t.val % 19 :=
  (by decide +kernel : ∀ t : Fin grid0.N, win0_1.index t 0 = 0 ∧ win0_1.index t 1 = t.val % 19)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val / 19 ∧ win0_3.index t 1 = t.val % 19 :=
  (by decide +kernel : ∀ t : Fin grid0.N, win0_3.index t 0 = t.val / 19 ∧ win0_3.index t 1 = t.val % 19)
theorem index4 : ∀ t : Fin cfg0.N, win0_4.index t 0 = t.val / 19 ∧ win0_4.index t 1 = 0 :=
  (by decide +kernel : ∀ t : Fin grid0.N, win0_4.index t 0 = t.val / 19 ∧ win0_4.index t 1 = 0)

theorem pt_lt (t : Fin cfg0.N) : t.val < 1216 := lt_of_lt_of_eq t.isLt Gen.N_0

/-- Row `r` of a point's row block. -/
def row (r : Fin 1024) : Fin 65536 := ⟨t.val / 19 * 1024 + r, by have := pt_lt t; omega⟩

/-- Column `j` of a point's column block. -/
def col (j : Fin 512) : Fin 9728 := ⟨t.val % 19 * 512 + j, by omega⟩

theorem blk0 (r : Fin 1024) (k : Fin 1024) : (iblk m c 0 t : FVec Ideal S1024x1024 .f32) (ix2 r k) = xArg m c (row t r) k := by
  unfold xArg row
  blk_simp [iblk]
  rw [V_main_arg0]
  blk_ext! [(index0 t).1, (index0 t).2]

theorem blk1 (k : Fin 1024) (j : Fin 512) : (iblk m c 1 t : FVec Ideal S1024x512 .bf16) (ix2 k j) =
    wArg m c k (InProj.mainCol (col t j)) := by
  rw [← V_main]
  unfold col
  blk_simp [iblk]
  blk_ext! [(index1 t).1, (index1 t).2]

theorem blk2 (k : Fin 1024) (l : Fin 128) : (iblk m c 2 t : FVec Ideal S1024x128 .bf16) (ix2 k l) =
    if h : l.val < 16 then wArg m c k ⟨6144 + l.val, by omega⟩ else 0 := by
  rw [← V_step]
  blk_simp [iblk]
  blk_ext! [(index2 t).1, (index2 t).2]

/-! ## The body's stores -/

theorem pay2_at (x : FVec Ideal S1024x1024 .f32) (r k : Fin 1024) :
    (k0_pay2 x : FVec Ideal S1024x1024 .bf16) (ix2 r k) = (x (ix2 r k) : EReal) := by
  pointwise [k0_pay2, k0_pay1]

theorem pay3_at (x : FVec Ideal S1024x1024 .f32) (w : FVec Ideal S1024x128 .bf16) (r : Fin 1024) (l : Fin 128) :
    k0_pay3 x w (ix2 r l) = ∑ k : Fin 1024, (x (ix2 r k) : EReal) * w (ix2 k l) := by
  pointwise [k0_pay3, k0_pay1]

theorem pay4_at (x : FVec Ideal S1024x1024 .bf16) (w : FVec Ideal S1024x512 .bf16) (r : Fin 1024) (j : Fin 512) :
    k0_pay4 x w (ix2 r j) = ∑ k : Fin 1024, x (ix2 r k) * w (ix2 k j) := by
  pointwise [k0_pay4]

/-- The row block is the one of the row's first point. -/
theorem row_start (r : Fin 1024) : row (rowStart t.val t.isLt) r = row t r :=
  Fin.ext (by show 19 * (t.val / 19) / 19 * 1024 + r.val = t.val / 19 * 1024 + r.val; omega)

/-- What a point stores in the first result. -/
theorem main_at (r : Fin 1024) (j : Fin 512) : (k0_pay4 (xRow m c t.val t.isLt) (iblk m c 1 t) : FVec Ideal S1024x512 .bf16) (ix2 r j) =
    InProj.proj (xArg m c) (wArg m c) (row t r) (InProj.mainCol (col t j)) := by
  rw [pay4_at]
  refine Finset.sum_congr rfl fun k _ => ?_
  rw [xRow, pay2_at, blk0, blk1, row_start]

/-- What a row block's first point stores in the second result. -/
theorem step_at (r : Fin 1024) (l : Fin 128) : (dtRow m c t.val t.isLt : FVec Ideal S1024x128 .f32) (ix2 r l) =
    InProj.stepAt (xArg m c) (wArg m c) (row t r) l := by
  rw [dtRow, pay3_at]
  simp only [blk0, blk2, row_start]
  unfold InProj.stepAt
  split
  · rfl
  · simp only [mul_zero, Finset.sum_const_zero]

/-! ## The arrays -/

/-- The first result, of the program's arguments. -/
def mainArr : FVec Ideal S65536x9728 .bf16 := fun i =>
  InProj.proj (xArg m c) (wArg m c) ⟨(i 0).val, (i 0).isLt⟩ (InProj.mainCol ⟨(i 1).val, (i 1).isLt⟩)

/-- The second result, of the program's arguments. -/
def stepArr : FVec Ideal S65536x128 .f32 := fun i =>
  InProj.stepAt (xArg m c) (wArg m c) ⟨(i 0).val, (i 0).isLt⟩ ⟨(i 1).val, (i 1).isLt⟩

/-- The first result's blocks cover it. -/
theorem covers3 : (cfg0.win 3).Covers :=
  (cfg0.win 3).covers_of_index_surj rfl (by decide) fun β => by
    have h0 : (β 0).val < 64 := lt_of_lt_of_eq (β 0).isLt (by decide : (cfg0.win 3).nblk 0 = 64)
    have h1 : (β 1).val < 19 := lt_of_lt_of_eq (β 1).isLt (by decide : (cfg0.win 3).nblk 1 = 19)
    have hi := index3 ⟨(β 0).val * 19 + (β 1).val, lt_of_lt_of_eq (by omega) Gen.N_0.symm⟩
    refine ⟨⟨(β 0).val * 19 + (β 1).val, lt_of_lt_of_eq (by omega) Gen.N_0.symm⟩, fun a => ?_⟩
    match a with
    | ⟨0, _⟩ => exact hi.1.trans (show ((β 0).val * 19 + (β 1).val) / 19 = (β 0).val by omega)
    | ⟨1, _⟩ => exact hi.2.trans (show ((β 0).val * 19 + (β 1).val) % 19 = (β 1).val by omega)

/-- The second result's blocks cover it. -/
theorem covers4 : (cfg0.win 4).Covers :=
  (cfg0.win 4).covers_of_index_surj rfl (by decide) fun β => by
    have h0 : (β 0).val < 64 := lt_of_lt_of_eq (β 0).isLt (by decide : (cfg0.win 4).nblk 0 = 64)
    have h1 : (β 1).val < 1 := lt_of_lt_of_eq (β 1).isLt (by decide : (cfg0.win 4).nblk 1 = 1)
    have hi := index4 ⟨(β 0).val * 19, lt_of_lt_of_eq (by omega) Gen.N_0.symm⟩
    refine ⟨⟨(β 0).val * 19, lt_of_lt_of_eq (by omega) Gen.N_0.symm⟩, fun a => ?_⟩
    match a with
    | ⟨0, _⟩ => exact hi.1.trans (show (β 0).val * 19 / 19 = (β 0).val by omega)
    | ⟨1, _⟩ => exact hi.2.trans (Nat.lt_one_iff.mp h1).symm

theorem main_eq_arr : (dats m 0 c).arrAt 3 cfg0.N = mainArr m c := by
  refine (dats m 0 c).arrAt_eq_of_covers 3 _ covers3 fun t hf y => ?_
  blk_simp
  rw [after_h]
  idx_vars y
  refine (main_at m c t y0 y1).trans ?_
  refine Eq.trans (b := mainArr m c (ix2 (row t y0) (col t y1))) rfl (congrArg (mainArr m c) ?_)
  unfold row col
  blk_ext! [(index3 t).1, (index3 t).2]

theorem step_eq_arr : (dats m 0 c).arrAt 4 cfg0.N = stepArr m c := by
  refine (dats m 0 c).arrAt_eq_of_covers 4 _ covers4 fun t hf y => ?_
  blk_simp
  rw [after_dt]
  idx_vars y
  refine (step_at m c t y0 y1).trans ?_
  refine Eq.trans (b := stepArr m c (ix2 (row t y0) y1)) rfl (congrArg (stepArr m c) ?_)
  unfold row
  blk_ext! [(index4 t).1, (index4 t).2]

/-- The program terminates with both results as stated, and leaves its arguments. -/
theorem run_results (ρ : Dev nD → PrngReg) : θ_run (defs (F := Ideal)) (onTc (τ := τ) (main (F := Ideal))) ⟨m, fun _ => 0, ρ⟩ fun r => ∀ c : Dev nD,
      r.2.mem ((c.tc : Thread nD τ).loc main_v7_0) = mainArr m c
      ∧ r.2.mem ((c.tc : Thread nD τ).loc main_v7_1) = stepArr m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 3).trans (main_eq_arr m c), ((h c).1 4).trans (step_eq_arr m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c)⟩) (run_main m ρ)

end Cert.InProjIdeal.Body
-- ==== Proof.MergeRef.lean ====
/- The merge's mathematics on one token's rows, and the reference's two results at an index. -/
module

public import proofs.«01_k».proof.Proof.Gen.MergeReferenceIdeal.Run
public import Idealize.ShloMosaic.Lib.Pointwise
public import Idealize.ShloMosaic.Lib.Pipeline.ValueKit

@[expose] public section

set_option maxRecDepth 16384

noncomputable section

namespace Merge

open Idealize.ShloMosaic

/-- A branch's gate. -/
def gate (h b : EReal) : EReal := Ideal.div 1 (1 + Ideal.exp (- (h + b)))

/-- Lane `x` of the three gated branches' sum. -/
def mixed (h b y : Fin 3 → Fin 1024 → EReal) (x : Fin 1024) : EReal :=
  gate (h 0 x) (b 0 x) * y 0 x + gate (h 1 x) (b 1 x) * y 1 x + gate (h 2 x) (b 2 x) * y 2 x

/-- Lane `j` of the residual sum: the scaled token and the projected sum of the branches. -/
def resid (h b y : Fin 3 → Fin 1024 → EReal) (x : Fin 1024 → EReal) (w : Fin 1024 → Fin 1024 → EReal) (j : Fin 1024) : EReal :=
  Ideal.ofBits .f32 0x3FB504F3#32 * x j + ∑ k : Fin 1024, mixed h b y k * w k j

/-- The mean of a row. -/
def mean (f : Fin 1024 → EReal) : EReal := Ideal.div (∑ x : Fin 1024, f x) (Ideal.ofBits .f32 0x44800000#32)

/-- The layer norm of a row. -/
def norm (f g b : Fin 1024 → EReal) (j : Fin 1024) : EReal :=
  (f j - mean f) * Ideal.rsqrt (mean (fun x => (f x - mean f) * (f x - mean f)) + Ideal.ofBits .f32 0x3727C5AC#32) * g j + b j

/-- Lane `l` of the logits of a row: four of the groups, 32 of the experts, then zeros. -/
def logit (f : Fin 1024 → EReal) (wg : Fin 1024 → Fin 4 → EReal) (bg : Fin 4 → EReal) (we : Fin 1024 → Fin 32 → EReal)
    (be : Fin 32 → EReal) (l : Fin 128) : EReal :=
  if h : l.val < 36 then
    if h' : l.val < 4 then ∑ k : Fin 1024, f k * wg k ⟨l, h'⟩ + bg ⟨l, h'⟩
    else ∑ k : Fin 1024, f k * we k ⟨l.val - 4, by omega⟩ + be ⟨l.val - 4, by omega⟩
  else 0

end Merge

namespace Cert.MergeReferenceIdeal.Value

open Cert.MergeReferenceIdeal Cert.MergeReferenceIdeal.Gen Idealize.ShloMosaic Idealize.ShloMosaic.TcCoe Idealize.SL.Sem

section Stages

variable {F : FTy → Type} [FloatOps F]

/-- The reference's gates. -/
def gates (h : FVec F S65536x9728 .bf16) (b : FVec F S3x1024 .f32) : FVec F S65536x3x1024 .f32 :=
  Host.divf (broadcastInDim S65536x3x1024 ![] bcast_S_S65536x3x1024 (constant S_ .f32 0x3F800000#32)) (addf (broadcastInDim S65536x3x1024 ![] bcast_S_S65536x3x1024 (constant S_ .f32 0x3F800000#32)) (Host.exp (Host.negf (addf (shapeCast _ (extf .f32 (extractStridedSlice S65536x3072 ![0, 0] h slices_S65536x9728_S65536x3072_0_0) bitsLt_bf16_f32) shapeCasts_S65536x3072_S65536x3x1024) (broadcastInDim S65536x3x1024 ![0, 1, 2] bcast_S1x3x1024_S65536x3x1024_0_1_2 (broadcastInDim S1x3x1024 ![1, 2] bcast_S3x1024_S1x3x1024_1_2 b))))))

/-- The gated sum of the branches. -/
def mix (g : FVec F S65536x3x1024 .f32) (y0 y1 y2 : FVec F S65536x1024 .bf16) : FVec F S65536x1024 .f32 :=
  addf (addf (mulf (shapeCast _ (extractStridedSlice S65536x1x1024 ![0, 0, 0] g slices_S65536x3x1024_S65536x1x1024_0_0_0) shapeCasts_S65536x1x1024_S65536x1024) (extf .f32 y0 bitsLt_bf16_f32))
    (mulf (shapeCast _ (extractStridedSlice S65536x1x1024 ![0, 1, 0] g slices_S65536x3x1024_S65536x1x1024_0_1_0) shapeCasts_S65536x1x1024_S65536x1024) (extf .f32 y1 bitsLt_bf16_f32)))
    (mulf (shapeCast _ (extractStridedSlice S65536x1x1024 ![0, 2, 0] g slices_S65536x3x1024_S65536x1x1024_0_2_0) shapeCasts_S65536x1x1024_S65536x1024) (extf .f32 y2 bitsLt_bf16_f32))

/-- The residual sum. -/
def sums (x M : FVec F S65536x1024 .f32) (w : FVec F S1024x1024 .f32) : FVec F S65536x1024 .f32 :=
  addf (mulf (broadcastInDim S65536x1024 ![] bcast_S_S65536x1024 (constant S_ .f32 0x3FB504F3#32)) x) (Host.dotGeneral dot_S65536x1024_S1024x1024_S65536x1024_1_0_0_1_n_n none M w)

/-- The rows' means. -/
def means (R : FVec F S65536x1024 .f32) : FVec F S65536x1 .f32 :=
  Host.divf (broadcastInDim S65536x1 ![0] bcast_S65536_S65536x1_0 (Host.reduceAdd R (constant S_ .f32 0x00000000#32) reducesTo_S65536x1024_S65536_d1 h_S_)) (broadcastInDim S65536x1 ![] bcast_S_S65536x1 (constant S_ .f32 0x44800000#32))

/-- The rows without their means. -/
def centred (R : FVec F S65536x1024 .f32) : FVec F S65536x1024 .f32 :=
  subf R (broadcastInDim S65536x1024 ![0, 1] bcast_S65536x1_S65536x1024_0_1 (means R))

/-- The layer norm. -/
def normed (R : FVec F S65536x1024 .f32) (g b : FVec F S1024 .f32) : FVec F S65536x1024 .f32 :=
  addf (mulf (mulf (centred R) (broadcastInDim S65536x1024 ![0, 1] bcast_S65536x1_S65536x1024_0_1 (Host.rsqrt (addf (means (mulf (centred R) (centred R))) (broadcastInDim S65536x1 ![] bcast_S_S65536x1 (constant S_ .f32 0x3727C5AC#32)))))) (broadcastInDim S65536x1024 ![0, 1] bcast_S1x1024_S65536x1024_0_1 (broadcastInDim S1x1024 ![1] bcast_S1024_S1x1024_1 g))) (broadcastInDim S65536x1024 ![0, 1] bcast_S1x1024_S65536x1024_0_1 (broadcastInDim S1x1024 ![1] bcast_S1024_S1x1024_1 b))

/-- The logits, padded. -/
def logits (X : FVec F S65536x1024 .f32) (wg : FVec F S1024x4 .f32) (bg : FVec F S4 .f32) (we : FVec F S1024x32 .f32) (be : FVec F S32 .f32) :
    FVec F S65536x128 .f32 :=
  pad S65536x128 ![0, 0] ![0, 92] ![0, 0] (concatenate S65536x36 1 [⟨S65536x4, (addf (Host.dotGeneral dot_S65536x1024_S1024x4_S65536x4_1_0_0_1_n_n none X wg) (broadcastInDim S65536x4 ![0, 1] bcast_S1x4_S65536x4_0_1 (broadcastInDim S1x4 ![1] bcast_S4_S1x4_1 bg)))⟩, ⟨S65536x32, (addf (Host.dotGeneral dot_S65536x1024_S1024x32_S65536x32_1_0_0_1_n_n none X we) (broadcastInDim S65536x32 ![0, 1] bcast_S1x32_S65536x32_0_1 (broadcastInDim S1x32 ![1] bcast_S32_S1x32_1 be)))⟩] concatenates_S65536x4_S65536x32_S65536x36_d1) (sitofp .f32 (constantI S_ 32 0#32)) pads_S65536x36_S65536x128_000_0920 h_S_

variable (m : (ℓ : Loc nD τ sig) → Buf (Elt F) ℓ) (c : Dev nD)

/-- The reference's residual sum, of its arguments. -/
def argSums : FVec F S65536x1024 .f32 :=
  sums (m ((c.tc : Thread nD τ).loc main_arg5))
    (mix (gates (m ((c.tc : Thread nD τ).loc main_arg0)) (m ((c.tc : Thread nD τ).loc main_arg1))) (m ((c.tc : Thread nD τ).loc main_arg2))
      (m ((c.tc : Thread nD τ).loc main_arg3)) (m ((c.tc : Thread nD τ).loc main_arg4)))
    (m ((c.tc : Thread nD τ).loc main_arg6))

/-- The reference's first result, of its arguments. -/
def argNorm : FVec F S65536x1024 .f32 :=
  normed (argSums m c) (m ((c.tc : Thread nD τ).loc main_arg7)) (m ((c.tc : Thread nD τ).loc main_arg8))

/-- The reference run's first result is the staged one. -/
theorem token_eq : res_main_v53 m c = argNorm m c := by
  unfold res_main_v53; rfl

/-- The reference run's second result is the staged one. -/
theorem logit_eq : res_main_v63 m c = logits (argNorm m c) (m ((c.tc : Thread nD τ).loc main_arg9)) (m ((c.tc : Thread nD τ).loc main_arg10))
    (m ((c.tc : Thread nD τ).loc main_arg11)) (m ((c.tc : Thread nD τ).loc main_arg12)) := by
  unfold res_main_v63; rfl

end Stages

/-- A gate at a lane. -/
theorem gates_at (h : FVec Ideal S65536x9728 .bf16) (b : FVec Ideal S3x1024 .f32) (u : Fin 65536) (n : Fin 3) (j : Fin 1024) :
    gates h b (ix3 u n j) = Merge.gate (h (ix2 u ⟨n * 1024 + j, by omega⟩)) (b (ix2 n j)) := by
  pointwise [gates]
  rfl

/-- The gated sum at a lane. -/
theorem mix_at (g : FVec Ideal S65536x3x1024 .f32) (y0 y1 y2 : FVec Ideal S65536x1024 .bf16) (u : Fin 65536) (j : Fin 1024) :
    mix g y0 y1 y2 (ix2 u j) = g (ix3 u 0 j) * y0 (ix2 u j) + g (ix3 u 1 j) * y1 (ix2 u j) + g (ix3 u 2 j) * y2 (ix2 u j) := by
  pointwise [mix]

/-- The residual sum at a lane. -/
theorem sums_at (x M : FVec Ideal S65536x1024 .f32) (w : FVec Ideal S1024x1024 .f32) (u : Fin 65536) (j : Fin 1024) :
    sums x M w (ix2 u j) = Ideal.ofBits .f32 0x3FB504F3#32 * x (ix2 u j) + ∑ k : Fin 1024, M (ix2 u k) * w (ix2 k j) := by
  pointwise [sums]

/-- The mean of a row. -/
theorem means_at (R : FVec Ideal S65536x1024 .f32) (u : Fin 65536) : means R (ix2 u 0) = Merge.mean fun x => R (ix2 u x) := by
  unfold Merge.mean
  pointwise [means]

/-- A lane less the mean of its row. -/
theorem centred_at (R : FVec Ideal S65536x1024 .f32) (u : Fin 65536) (j : Fin 1024) :
    centred R (ix2 u j) = R (ix2 u j) - Merge.mean fun x => R (ix2 u x) := by
  rw [← means_at]
  pointwise [centred]

/-- The normalized row at a lane. -/
theorem normed_at (R : FVec Ideal S65536x1024 .f32) (g b : FVec Ideal S1024 .f32) (u : Fin 65536) (j : Fin 1024) :
    normed R g b (ix2 u j) = Merge.norm (fun x => R (ix2 u x)) (fun x => g (ix1 x)) (fun x => b (ix1 x)) j := by
  have e := fun j => centred_at R u j
  have e' := means_at (mulf (centred R) (centred R)) u
  unfold normed Merge.norm
  have e2 : ∀ x, mulf (centred R) (centred R) (ix2 u x) = centred R (ix2 u x) * centred R (ix2 u x) := fun _ => rfl
  simp only [e2, e] at e'
  generalize means (mulf (centred R) (centred R)) = V at e' ⊢
  generalize centred R = C at e ⊢
  pointwise []
  rw [e, e']

/-- A row's logits at a lane of the 128. -/
theorem logits_at (X : FVec Ideal S65536x1024 .f32) (wg : FVec Ideal S1024x4 .f32) (bg : FVec Ideal S4 .f32) (we : FVec Ideal S1024x32 .f32)
    (be : FVec Ideal S32 .f32) (u : Fin 65536) (l : Fin 128) :
    logits X wg bg we be (ix2 u l) = Merge.logit (fun x => X (ix2 u x)) (fun k n => wg (ix2 k n)) (fun n => bg (ix1 n))
      (fun k n => we (ix2 k n)) (fun n => be (ix1 n)) l := by
  pointwise [logits]
  refine dite_congr rfl (fun _ => rfl) fun _ => ?_
  simp [FloatOps.sitofp]

end Cert.MergeReferenceIdeal.Value
-- ==== Proof.MergeValue.lean ====
/- What the merge's launch leaves in its two results, in terms of the program's arguments. -/
module

public import proofs.«01_k».proof.Proof.Gen.MergeIdeal.Value
public import proofs.«01_k».proof.Proof.MergeRef
public import Idealize.ShloMosaic.Lib.StableHlo.ReadAt
public import Idealize.ShloMosaic.Lib.Pipeline.Covers
public import Idealize.ShloMosaic.Lib.Pipeline.ValueKit
public import Idealize.ShloMosaic.Lib.Pipeline.ReadBack

@[expose] public section

set_option maxRecDepth 16384

noncomputable section

namespace Cert.MergeIdeal.Row

open Cert.MergeIdeal Cert.MergeIdeal.Gen Idealize.ShloMosaic Idealize.ShloMosaic.TcCoe Idealize.SL.Sem

variable (m : (ℓ : Loc nD τ sig) → Buf (Elt Ideal) ℓ) (c : Dev nD) (t : Fin cfg0.N)

/-! ## The program's arguments as functions of their coordinates -/

def hArg (u : Fin 65536) (j : Fin 9728) : EReal := (m ((c.tc : Thread nD τ).loc main_arg0) : FVec Ideal S65536x9728 .bf16) (ix2 u j)
def bArg (n : Fin 3) (j : Fin 1024) : EReal := (m ((c.tc : Thread nD τ).loc main_arg1) : FVec Ideal S3x1024 .f32) (ix2 n j)
def y0Arg (u : Fin 65536) (j : Fin 1024) : EReal := (m ((c.tc : Thread nD τ).loc main_arg2) : FVec Ideal S65536x1024 .bf16) (ix2 u j)
def y1Arg (u : Fin 65536) (j : Fin 1024) : EReal := (m ((c.tc : Thread nD τ).loc main_arg3) : FVec Ideal S65536x1024 .bf16) (ix2 u j)
def y2Arg (u : Fin 65536) (j : Fin 1024) : EReal := (m ((c.tc : Thread nD τ).loc main_arg4) : FVec Ideal S65536x1024 .bf16) (ix2 u j)
def xArg (u : Fin 65536) (j : Fin 1024) : EReal := (m ((c.tc : Thread nD τ).loc main_arg5) : FVec Ideal S65536x1024 .f32) (ix2 u j)
def wArg (k j : Fin 1024) : EReal := (m ((c.tc : Thread nD τ).loc main_arg6) : FVec Ideal S1024x1024 .f32) (ix2 k j)
def lgArg (j : Fin 1024) : EReal := (m ((c.tc : Thread nD τ).loc main_arg7) : FVec Ideal S1024 .f32) (ix1 j)
def lbArg (j : Fin 1024) : EReal := (m ((c.tc : Thread nD τ).loc main_arg8) : FVec Ideal S1024 .f32) (ix1 j)
def wgArg (k : Fin 1024) (n : Fin 4) : EReal := (m ((c.tc : Thread nD τ).loc main_arg9) : FVec Ideal S1024x4 .f32) (ix2 k n)
def bgArg (n : Fin 4) : EReal := (m ((c.tc : Thread nD τ).loc main_arg10) : FVec Ideal S4 .f32) (ix1 n)
def weArg (k : Fin 1024) (n : Fin 32) : EReal := (m ((c.tc : Thread nD τ).loc main_arg11) : FVec Ideal S1024x32 .f32) (ix2 k n)
def beArg (n : Fin 32) : EReal := (m ((c.tc : Thread nD τ).loc main_arg12) : FVec Ideal S32 .f32) (ix1 n)

/-! ## The arrays the launch reads, as the host operations before it leave them -/

/-- The output weights as the launch reads them. -/
theorem V_w (k j : Fin 1024) : (V m c main_v5 : FVec Ideal S1024x1024 .bf16) (ix2 k j) = wArg m c k j := by
  unfold V
  after_reads_at
  rfl

/-- The norm's scale as the launch reads it. -/
theorem V_lg (j : Fin 1024) : (V m c main_v6 : FVec Ideal S1x1024 .f32) (ix2 0 j) = lgArg m c j := by
  unfold V
  after_reads_at
  rfl

/-- The norm's shift as the launch reads it. -/
theorem V_lb (j : Fin 1024) : (V m c main_v7 : FVec Ideal S1x1024 .f32) (ix2 0 j) = lbArg m c j := by
  unfold V
  after_reads_at
  rfl

/-- The router's weights: the groups' columns, the experts', then zeros. -/
theorem V_wr (k : Fin 1024) (l : Fin 128) : (V m c main_v1 : FVec Ideal S1024x128 .f32) (ix2 k l) =
    if h : l.val < 36 then if h' : l.val < 4 then wgArg m c k ⟨l, h'⟩ else weArg m c k ⟨l.val - 4, by omega⟩ else 0 := by
  unfold V
  after_reads_at
  after_reads_at
  refine dite_congr rfl (fun _ => rfl) fun _ => ?_
  simp [FloatOps.sitofp]

/-- The router's biases, in the same lanes. -/
theorem V_br (l : Fin 128) : (V m c main_v4 : FVec Ideal S1x128 .f32) (ix2 0 l) =
    if h : l.val < 36 then if h' : l.val < 4 then bgArg m c ⟨l, h'⟩ else beArg m c ⟨l.val - 4, by omega⟩ else 0 := by
  unfold V
  after_reads_at
  after_reads_at
  refine dite_congr rfl (fun _ => rfl) fun _ => ?_
  simp [FloatOps.sitofp]

/-! ## The windows' blocks -/

/-- The grid is one axis of 128 points, and the row windows' blocks are numbered by it. -/
theorem index0 : ∀ t : Fin cfg0.N, win0_0.index t 0 = t.val ∧ win0_0.index t 1 = 0 := (by decide +kernel : ∀ t : Fin grid0.N, win0_0.index t 0 = t.val ∧ win0_0.index t 1 = 0)
theorem index1 : ∀ t : Fin cfg0.N, win0_1.index t 0 = t.val ∧ win0_1.index t 1 = 1 := (by decide +kernel : ∀ t : Fin grid0.N, win0_1.index t 0 = t.val ∧ win0_1.index t 1 = 1)
theorem index2 : ∀ t : Fin cfg0.N, win0_2.index t 0 = t.val ∧ win0_2.index t 1 = 2 := (by decide +kernel : ∀ t : Fin grid0.N, win0_2.index t 0 = t.val ∧ win0_2.index t 1 = 2)
theorem index3 : ∀ t : Fin cfg0.N, win0_3.index t 0 = 0 ∧ win0_3.index t 1 = 0 := (by decide +kernel : ∀ t : Fin grid0.N, win0_3.index t 0 = 0 ∧ win0_3.index t 1 = 0)
theorem index4 : ∀ t : Fin cfg0.N, win0_4.index t 0 = t.val ∧ win0_4.index t 1 = 0 := (by decide +kernel : ∀ t : Fin grid0.N, win0_4.index t 0 = t.val ∧ win0_4.index t 1 = 0)
theorem index5 : ∀ t : Fin cfg0.N, win0_5.index t 0 = t.val ∧ win0_5.index t 1 = 0 := (by decide +kernel : ∀ t : Fin grid0.N, win0_5.index t 0 = t.val ∧ win0_5.index t 1 = 0)
theorem index6 : ∀ t : Fin cfg0.N, win0_6.index t 0 = t.val ∧ win0_6.index t 1 = 0 := (by decide +kernel : ∀ t : Fin grid0.N, win0_6.index t 0 = t.val ∧ win0_6.index t 1 = 0)
theorem index7 : ∀ t : Fin cfg0.N, win0_7.index t 0 = t.val ∧ win0_7.index t 1 = 0 := (by decide +kernel : ∀ t : Fin grid0.N, win0_7.index t 0 = t.val ∧ win0_7.index t 1 = 0)
theorem index8 : ∀ t : Fin cfg0.N, win0_8.index t 0 = 0 ∧ win0_8.index t 1 = 0 := (by decide +kernel : ∀ t : Fin grid0.N, win0_8.index t 0 = 0 ∧ win0_8.index t 1 = 0)
theorem index9 : ∀ t : Fin cfg0.N, win0_9.index t 0 = 0 ∧ win0_9.index t 1 = 0 := (by decide +kernel : ∀ t : Fin grid0.N, win0_9.index t 0 = 0 ∧ win0_9.index t 1 = 0)
theorem index10 : ∀ t : Fin cfg0.N, win0_10.index t 0 = 0 ∧ win0_10.index t 1 = 0 := (by decide +kernel : ∀ t : Fin grid0.N, win0_10.index t 0 = 0 ∧ win0_10.index t 1 = 0)
theorem index11 : ∀ t : Fin cfg0.N, win0_11.index t 0 = 0 ∧ win0_11.index t 1 = 0 := (by decide +kernel : ∀ t : Fin grid0.N, win0_11.index t 0 = 0 ∧ win0_11.index t 1 = 0)
theorem index12 : ∀ t : Fin cfg0.N, win0_12.index t 0 = 0 ∧ win0_12.index t 1 = 0 := (by decide +kernel : ∀ t : Fin grid0.N, win0_12.index t 0 = 0 ∧ win0_12.index t 1 = 0)
theorem index13 : ∀ t : Fin cfg0.N, win0_13.index t 0 = t.val ∧ win0_13.index t 1 = 0 := (by decide +kernel : ∀ t : Fin grid0.N, win0_13.index t 0 = t.val ∧ win0_13.index t 1 = 0)
theorem index14 : ∀ t : Fin cfg0.N, win0_14.index t 0 = t.val ∧ win0_14.index t 1 = 0 := (by decide +kernel : ∀ t : Fin grid0.N, win0_14.index t 0 = t.val ∧ win0_14.index t 1 = 0)

/-- There are 128 points. -/
theorem pt_lt (t : Fin cfg0.N) : t.val < 128 := lt_of_lt_of_eq t.isLt Gen.N_0

/-- Row `r` of a point's row block. -/
def row (r : Fin 512) : Fin 65536 := ⟨t.val * 512 + r, by have := pt_lt t; omega⟩

/-- The first gate's block: rows of the point, the first 1024 columns of the combined projection. -/
theorem blk0 (r : Fin 512) (j : Fin 1024) : (X0_0 m c t : FVec Ideal S512x1024 .bf16) (ix2 r j) =
    hArg m c (row t r) ⟨0 * 1024 + j, by omega⟩ := by
  have hm := moved0_0 t (ix2 r j)
  unfold X0_0 Pipeline.Window.fill
  rw [dif_pos hm]
  unfold hArg row
  blk_simp [iblk]
  rw [V_main_arg0]
  blk_ext! [(index0 t).1, (index0 t).2]

/-- The second gate's block. -/
theorem blk1 (r : Fin 512) (j : Fin 1024) : (X0_1 m c t : FVec Ideal S512x1024 .bf16) (ix2 r j) =
    hArg m c (row t r) ⟨1 * 1024 + j, by omega⟩ := by
  have hm := moved0_1 t (ix2 r j)
  unfold X0_1 Pipeline.Window.fill
  rw [dif_pos hm]
  unfold hArg row
  blk_simp [iblk]
  rw [V_main_arg0]
  blk_ext! [(index1 t).1, (index1 t).2]

/-- The third gate's block. -/
theorem blk2 (r : Fin 512) (j : Fin 1024) : (X0_2 m c t : FVec Ideal S512x1024 .bf16) (ix2 r j) =
    hArg m c (row t r) ⟨2 * 1024 + j, by omega⟩ := by
  have hm := moved0_2 t (ix2 r j)
  unfold X0_2 Pipeline.Window.fill
  rw [dif_pos hm]
  unfold hArg row
  blk_simp [iblk]
  rw [V_main_arg0]
  blk_ext! [(index2 t).1, (index2 t).2]

/-- The gate biases, whole. -/
theorem blk3 (n : Fin 3) (j : Fin 1024) : (iblk m c 3 t : FVec Ideal S3x1024 .f32) (ix2 n j) = bArg m c n j := by
  unfold bArg
  blk_simp [iblk]
  rw [V_main_arg1]
  blk_ext! [(index3 t).1, (index3 t).2]

/-- The first branch's block. -/
theorem blk4 (r : Fin 512) (j : Fin 1024) : (iblk m c 4 t : FVec Ideal S512x1024 .bf16) (ix2 r j) = y0Arg m c (row t r) j := by
  unfold y0Arg row
  blk_simp [iblk]
  rw [V_main_arg2]
  blk_ext! [(index4 t).1, (index4 t).2]

/-- The second branch's block. -/
theorem blk5 (r : Fin 512) (j : Fin 1024) : (iblk m c 5 t : FVec Ideal S512x1024 .bf16) (ix2 r j) = y1Arg m c (row t r) j := by
  unfold y1Arg row
  blk_simp [iblk]
  rw [V_main_arg3]
  blk_ext! [(index5 t).1, (index5 t).2]

/-- The third branch's block. -/
theorem blk6 (r : Fin 512) (j : Fin 1024) : (iblk m c 6 t : FVec Ideal S512x1024 .bf16) (ix2 r j) = y2Arg m c (row t r) j := by
  unfold y2Arg row
  blk_simp [iblk]
  rw [V_main_arg4]
  blk_ext! [(index6 t).1, (index6 t).2]

/-- The tokens' block. -/
theorem blk7 (r : Fin 512) (j : Fin 1024) : (iblk m c 7 t : FVec Ideal S512x1024 .f32) (ix2 r j) = xArg m c (row t r) j := by
  unfold xArg row
  blk_simp [iblk]
  rw [V_main_arg5]
  blk_ext! [(index7 t).1, (index7 t).2]

/-- The output weights, whole. -/
theorem blk8 (k j : Fin 1024) : (iblk m c 8 t : FVec Ideal S1024x1024 .bf16) (ix2 k j) = wArg m c k j := by
  rw [← V_w]
  blk_simp [iblk]
  blk_ext! [(index8 t).1, (index8 t).2]

/-- The norm's scale, whole. -/
theorem blk9 (j : Fin 1024) : (iblk m c 9 t : FVec Ideal S1x1024 .f32) (ix2 0 j) = lgArg m c j := by
  rw [← V_lg]
  blk_simp [iblk]
  blk_ext! [(index9 t).1, (index9 t).2]

/-- The norm's shift, whole. -/
theorem blk10 (j : Fin 1024) : (iblk m c 10 t : FVec Ideal S1x1024 .f32) (ix2 0 j) = lbArg m c j := by
  rw [← V_lb]
  blk_simp [iblk]
  blk_ext! [(index10 t).1, (index10 t).2]

/-- The router's weights, whole. -/
theorem blk11 (k : Fin 1024) (l : Fin 128) : (iblk m c 11 t : FVec Ideal S1024x128 .f32) (ix2 k l) = (V m c main_v1 : FVec Ideal S1024x128 .f32) (ix2 k l) := by
  blk_simp [iblk]
  blk_ext! [(index11 t).1, (index11 t).2]

/-- The router's biases, whole. -/
theorem blk12 (l : Fin 128) : (iblk m c 12 t : FVec Ideal S1x128 .f32) (ix2 0 l) = (V m c main_v4 : FVec Ideal S1x128 .f32) (ix2 0 l) := by
  blk_simp [iblk]
  blk_ext! [(index12 t).1, (index12 t).2]

/-! ## The body's stores -/

/-- The gated sum of the three branches at a lane. -/
theorem pay4_at (a0 : FVec Ideal S512x1024 .bf16) (b0 : FVec Ideal S1x1024 .f32) (y0 : FVec Ideal S512x1024 .bf16)
    (a1 : FVec Ideal S512x1024 .bf16) (b1 : FVec Ideal S1x1024 .f32) (y1 : FVec Ideal S512x1024 .bf16)
    (a2 : FVec Ideal S512x1024 .bf16) (b2 : FVec Ideal S1x1024 .f32) (y2 : FVec Ideal S512x1024 .bf16) (r : Fin 512) (j : Fin 1024) :
    (k0_pay4 a0 b0 y0 a1 b1 y1 a2 b2 y2 : FVec Ideal S512x1024 .bf16) (ix2 r j) =
      Merge.gate (a0 (ix2 r j)) (b0 (ix2 0 j)) * y0 (ix2 r j) + Merge.gate (a1 (ix2 r j)) (b1 (ix2 0 j)) * y1 (ix2 r j) +
        Merge.gate (a2 (ix2 r j)) (b2 (ix2 0 j)) * y2 (ix2 r j) := by
  pointwise [k0_pay4]
  rfl

/-- The scaled token at a lane. -/
theorem pay3_at (x : FVec Ideal S512x1024 .f32) (r : Fin 512) (j : Fin 1024) :
    k0_pay3 x (ix2 r j) = Ideal.ofBits .f32 0x3FB504F3#32 * x (ix2 r j) := by
  pointwise [k0_pay3]

/-- The output weights, unchanged. -/
theorem pay5_eq (w : FVec Ideal S1024x1024 .bf16) : k0_pay5 w = w := by
  funext i
  idx_vars i
  pointwise [k0_pay5]

/-- The normalized token at a lane, of the scaled token, the gated sum and the output weights. -/
theorem pay1_at (p : FVec Ideal S512x1024 .f32) (q : FVec Ideal S512x1024 .bf16) (w : FVec Ideal S1024x1024 .bf16) (g b : FVec Ideal S1x1024 .f32)
    (r : Fin 512) (j : Fin 1024) : k0_pay1 p q w (constant S512x1024 .f32 0x00000000#32) g b (ix2 r j) =
      Merge.norm (fun x => p (ix2 r x) + ∑ k : Fin 1024, q (ix2 r k) * w (ix2 k x)) (fun x => g (ix2 0 x)) (fun x => b (ix2 0 x)) j := by
  pointwise [k0_pay1]
  rfl

/-- A logit: the normalized token times the router, and its bias. -/
theorem pay2_at (p : FVec Ideal S512x1024 .f32) (q : FVec Ideal S512x1024 .bf16) (w : FVec Ideal S1024x1024 .bf16) (z : FVec Ideal S512x1024 .f32)
    (g b : FVec Ideal S1x1024 .f32) (wr : FVec Ideal S1024x128 .f32) (br : FVec Ideal S1x128 .f32) (r : Fin 512) (l : Fin 128) :
    k0_pay2 p q w z g b wr br (ix2 r l) = ∑ k : Fin 1024, k0_pay1 p q w z g b (ix2 r k) * wr (ix2 k l) + br (ix2 0 l) := by
  unfold k0_pay2
  generalize k0_pay1 p q w z g b = X
  pointwise []

/-- The gated sum a point computes. -/
def mixBlk : FVec Ideal S512x1024 .bf16 :=
  k0_pay4 (X0_0 m c t) (View.ld (iblk m c 3 t) (Rect.unit ![0, 0] ![1, 1024] inb_S3x1024_S1x1024_0_0))
    (iblk m c 4 t) (X0_1 m c t) (View.ld (iblk m c 3 t) (Rect.unit ![1, 0] ![1, 1024] inb_S3x1024_S1x1024_1_0))
    (iblk m c 5 t) (X0_2 m c t) (View.ld (iblk m c 3 t) (Rect.unit ![2, 0] ![1, 1024] inb_S3x1024_S1x1024_2_0)) (iblk m c 6 t)

/-- A point's first store. -/
def tokenBlk : FVec Ideal S512x1024 .f32 :=
  k0_pay1 (k0_pay3 (iblk m c 7 t)) (mixBlk m c t) (k0_pay5 (iblk m c 8 t)) (constant S512x1024 .f32 0#32) (iblk m c 9 t) (iblk m c 10 t)

/-- A point's second store. -/
def logitBlk : FVec Ideal S512x128 .f32 :=
  k0_pay2 (k0_pay3 (iblk m c 7 t)) (mixBlk m c t) (k0_pay5 (iblk m c 8 t)) (constant S512x1024 .f32 0#32) (iblk m c 9 t) (iblk m c 10 t)
    (iblk m c 11 t) (iblk m c 12 t)

/-- What the launch writes at a grid point. -/
theorem outs_eq : outsAt0 m c t = (tokenBlk m c t, logitBlk m c t) := by
  unfold outsAt0; frame_open
  simp (disch := decide) only [↓ View.readCov_skip, ↓ View.readCov_cons_toLoadRect, ↓ View.readCov_fill]
  frame_out
  rfl

/-- A token's gate inputs, biases and branches. -/
def hRow (u : Fin 65536) (n : Fin 3) (j : Fin 1024) : EReal := hArg m c u ⟨n * 1024 + j, by omega⟩
def yRow (u : Fin 65536) (n : Fin 3) (j : Fin 1024) : EReal := ![y0Arg m c u j, y1Arg m c u j, y2Arg m c u j] n

/-- A row of the biases' block. -/
theorem bias_at (n : Fin 3) (inb : ∀ a, (![n.val, 0] : Fin 2 → ℕ) a + (![1, 1024] : Fin 2 → ℕ) a ≤ S3x1024.size a) (j : Fin 1024) :
    (View.ld (iblk m c 3 t : FVec Ideal S3x1024 .f32) (Rect.unit (s := S3x1024) ![n.val, 0] ![1, 1024] inb) : FVec Ideal S1x1024 .f32) (ix2 0 j) = bArg m c n j := by
  rw [← blk3 m c t]
  unfold View.ld
  refine congrArg _ (funext fun a => Fin.ext ?_)
  match a with
  | 0 => simp [LoadRect.idx, Rect.unit]
  | 1 => simp [LoadRect.idx, Rect.unit]

/-- A lane of a point's gated sum, in terms of the program's arguments. -/
theorem mix_at (r : Fin 512) (j : Fin 1024) : mixBlk m c t (ix2 r j) =
    Merge.mixed (hRow m c (row t r)) (bArg m c) (yRow m c (row t r)) j := by
  unfold mixBlk
  rw [pay4_at, blk0, blk1, blk2, blk4, blk5, blk6]
  have h0 := bias_at m c t 0 inb_S3x1024_S1x1024_0_0 j
  have h1 := bias_at m c t 1 inb_S3x1024_S1x1024_1_0 j
  have h2 := bias_at m c t 2 inb_S3x1024_S1x1024_2_0 j
  refine congrArg₂ (· + ·) (congrArg₂ (· + ·) ?_ ?_) ?_
  · exact congrArg (fun b => Merge.gate _ b * _) h0
  · exact congrArg (fun b => Merge.gate _ b * _) h1
  · exact congrArg (fun b => Merge.gate _ b * _) h2

/-- A token's residual sum. -/
def residArg (u : Fin 65536) : Fin 1024 → EReal := Merge.resid (hRow m c u) (bArg m c) (yRow m c u) (xArg m c u) (wArg m c)

/-- A token's new row. -/
def normArg (u : Fin 65536) : Fin 1024 → EReal := Merge.norm (residArg m c u) (lgArg m c) (lbArg m c)

/-- A lane of a point's first store is the token's new row. -/
theorem token_at (r : Fin 512) (j : Fin 1024) : tokenBlk m c t (ix2 r j) = normArg m c (row t r) j := by
  unfold tokenBlk normArg residArg Merge.resid
  rw [pay1_at, pay5_eq]
  simp only [pay3_at, mix_at, blk7, blk8, blk9, blk10]

/-- A lane of a point's second store is the token's logit. -/
theorem logit_at (r : Fin 512) (l : Fin 128) : logitBlk m c t (ix2 r l) =
    Merge.logit (normArg m c (row t r)) (wgArg m c) (bgArg m c) (weArg m c) (beArg m c) l := by
  have e := fun k => token_at m c t r k
  unfold tokenBlk at e
  unfold logitBlk Merge.logit
  rw [pay2_at]
  refine (congrArg₂ (fun x y : EReal => x + y) (Finset.sum_congr rfl fun k _ => congrArg₂ (fun x y : EReal => x * y) (e k)
    ((blk11 m c t k l).trans (V_wr m c k l))) ((blk12 m c t l).trans (V_br m c l))).trans ?_
  by_cases h : l.val < 36
  · by_cases h' : l.val < 4 <;> simp only [h, h', dite_true, dite_false]
  · simp only [h, dite_false, mul_zero, Finset.sum_const_zero, add_zero]

/-! ## The arrays -/

/-- The first result, of the program's arguments. -/
def tokenArr : FVec Ideal S65536x1024 .f32 := fun i => normArg m c ⟨(i 0).val, (i 0).isLt⟩ ⟨(i 1).val, (i 1).isLt⟩

/-- The second result, of the program's arguments. -/
def logitArr : FVec Ideal S65536x128 .f32 := fun i =>
  Merge.logit (normArg m c ⟨(i 0).val, (i 0).isLt⟩) (wgArg m c) (bgArg m c) (weArg m c) (beArg m c) ⟨(i 1).val, (i 1).isLt⟩

/-- The blocks of the first result cover it. -/
theorem covers13 : (cfg0.win 13).Covers :=
  (cfg0.win 13).covers_of_index_surj rfl (by decide) fun β => by
    have h0 : (β 0).val < 128 := lt_of_lt_of_eq (β 0).isLt (by decide : (cfg0.win 13).nblk 0 = 128)
    have h1 : (β 1).val < 1 := lt_of_lt_of_eq (β 1).isLt (by decide : (cfg0.win 13).nblk 1 = 1)
    have hi := index13 ⟨(β 0).val, lt_of_lt_of_eq h0 Gen.N_0.symm⟩
    refine ⟨⟨(β 0).val, lt_of_lt_of_eq h0 Gen.N_0.symm⟩, fun a => ?_⟩
    match a with
    | ⟨0, _⟩ => exact hi.1
    | ⟨1, _⟩ => exact hi.2.trans (Nat.lt_one_iff.mp h1).symm

/-- The first result ends at its array. -/
theorem token_arr : (dats m 0 c).arrAt 13 cfg0.N = tokenArr m c := by
  refine (dats m 0 c).arrAt_eq_of_covers 13 _ covers13 fun t hf y => ?_
  blk_simp
  rw [after0_13, outs_eq]
  idx_vars y
  refine (token_at m c t y0 y1).trans ?_
  refine Eq.trans (b := tokenArr m c (ix2 (row t y0) y1)) rfl (congrArg (tokenArr m c) ?_)
  unfold row
  blk_ext! [(index13 t).1, (index13 t).2]

/-- The blocks of the second result cover it. -/
theorem covers14 : (cfg0.win 14).Covers :=
  (cfg0.win 14).covers_of_index_surj rfl (by decide) fun β => by
    have h0 : (β 0).val < 128 := lt_of_lt_of_eq (β 0).isLt (by decide : (cfg0.win 14).nblk 0 = 128)
    have h1 : (β 1).val < 1 := lt_of_lt_of_eq (β 1).isLt (by decide : (cfg0.win 14).nblk 1 = 1)
    have hi := index14 ⟨(β 0).val, lt_of_lt_of_eq h0 Gen.N_0.symm⟩
    refine ⟨⟨(β 0).val, lt_of_lt_of_eq h0 Gen.N_0.symm⟩, fun a => ?_⟩
    match a with
    | ⟨0, _⟩ => exact hi.1
    | ⟨1, _⟩ => exact hi.2.trans (Nat.lt_one_iff.mp h1).symm

/-- The second result ends at its array. -/
theorem logit_arr : (dats m 0 c).arrAt 14 cfg0.N = logitArr m c := by
  refine (dats m 0 c).arrAt_eq_of_covers 14 _ covers14 fun t hf y => ?_
  blk_simp
  rw [after0_14, outs_eq]
  idx_vars y
  refine (logit_at m c t y0 y1).trans ?_
  refine Eq.trans (b := logitArr m c (ix2 (row t y0) y1)) rfl (congrArg (logitArr m c) ?_)
  unfold row
  blk_ext! [(index14 t).1, (index14 t).2]

end Cert.MergeIdeal.Row
-- ==== Proof.RopeRef.lean ====
/- The rotary tables: the reference's two results, lane by lane, in terms of the token positions. -/
module

public import proofs.«01_k».proof.Proof.Gen.RopeReferenceIdeal.Run
public import Idealize.ShloMosaic.Lib.Pointwise
public import Idealize.ShloMosaic.Lib.ValueIdx

@[expose] public section

set_option maxRecDepth 16384

noncomputable section

open Idealize.ShloMosaic

/-! ## The mathematics of a table's lane -/

namespace Rope

/-- The frequency of angle `k` of 32. -/
def freq (k : Fin 32) : EReal :=
  Ideal.pow (Ideal.ofBits .f32 0x461C4000#32) (Ideal.div (-(((BitVec.ofNat 32 k.val).toInt : ℝ) : EReal)) (Ideal.ofBits .f32 0x42000000#32))

/-- The angle `k` of a token at position `p`. -/
def angle (p : BitVec 32) (k : Fin 32) : EReal := ((p.toInt : ℝ) : EReal) * freq k

/-- Lane `l` of the cosine table's row of a position. -/
def cosLane (p : BitVec 32) (l : Fin 128) : EReal := Ideal.cos (angle p ⟨l.val % 32, by omega⟩)

/-- Lane `l` of the sine table's row of a position: negative in the first half of each head. -/
def sinLane (p : BitVec 32) (l : Fin 128) : EReal :=
  if l.val % 64 < 32 then -Ideal.sin (angle p ⟨l.val % 32, by omega⟩) else Ideal.sin (angle p ⟨l.val % 32, by omega⟩)

end Rope

namespace Cert.RopeReferenceIdeal.Value

open Cert.RopeReferenceIdeal Idealize.ShloMosaic.TcCoe Idealize.SL.Sem Cert.RopeReferenceIdeal.Gen

section Stages

variable {F : FTy → Type} [FloatOps F]

/-- The reference's frequencies. -/
def freqs : FVec F S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- The reference's angles, token by token. -/
def angles (p : IVec S32x2048 32) : FVec F S32x2048x32 .f32 :=
  mulf (broadcastInDim S32x2048x32 ![0, 1, 2] bcast_S32x2048x1_S32x2048x32_0_1_2 (broadcastInDim S32x2048x1 ![0, 1] bcast_S32x2048_S32x2048x1_0_1 (sitofp .f32 p))) (broadcastInDim S32x2048x32 ![0, 1, 2] bcast_S1x1x32_S32x2048x32_0_1_2 (broadcastInDim S1x1x32 ![2] bcast_S32_S1x1x32_2 freqs))

/-- The cosines of the angles, one row for each token. -/
def cosines (p : IVec S32x2048 32) : FVec F S65536x32 .f32 := shapeCast _ (Host.cos (angles p)) shapeCasts_S32x2048x32_S65536x32

/-- The sines of the angles, one row for each token. -/
def sines (p : IVec S32x2048 32) : FVec F S65536x32 .f32 := shapeCast _ (Host.sin (angles p)) shapeCasts_S32x2048x32_S65536x32

/-- Four blocks of 32 lanes side by side. -/
def four (a b c d : FVec F S65536x32 .f32) : FVec F S65536x128 .f32 :=
  concatenate S65536x128 1 [⟨S65536x32, a⟩, ⟨S65536x32, b⟩, ⟨S65536x32, c⟩, ⟨S65536x32, d⟩] concatenates_S65536x32_S65536x32_S65536x32_S65536x32_S65536x128_d1

/-- The reference's first result. -/
def cosTable (p : IVec S32x2048 32) : FVec F S65536x128 .f32 := four (cosines p) (cosines p) (cosines p) (cosines p)

/-- The reference's second result. -/
def sinTable (p : IVec S32x2048 32) : FVec F S65536x128 .f32 := four (Host.negf (sines p)) (sines p) (Host.negf (sines p)) (sines p)

/-- The reference run in its stages. -/
theorem run_tables (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = cosTable (m ((c.tc : Thread nD τ).loc main_arg0))
      ∧ r.2.mem ((c.tc : Thread nD τ).loc main_v19) = sinTable (m ((c.tc : Thread nD τ).loc main_arg0))
      ∧ r.2.mem ((c.tc : Thread nD τ).loc main_arg0) = m ((c.tc : Thread nD τ).loc main_arg0) :=
  (θ_run defs _ _).mono (fun _ h c => ⟨(h c).1, (h c).2.1, (h c).2.2⟩) (run m ρ)

end Stages

/-- A frequency. -/
theorem freqs_at (k : Fin 32) : (freqs : FVec Ideal S32 .f32) (ix1 k) = Rope.freq k := by
  pointwise [freqs]
  rfl

/-- An angle of token `u`, which is token `u % 2048` of sequence `u / 2048`. -/
theorem angles_at (p : IVec S32x2048 32) (b : Fin 32) (n : Fin 2048) (k : Fin 32) :
    (angles p : FVec Ideal S32x2048x32 .f32) (ix3 b n k) = Rope.angle (p (ix2 b n)) k := by
  unfold Rope.angle
  rw [← freqs_at]
  pointwise [angles]
  rfl

/-- A cosine. -/
theorem cosines_at (p : IVec S32x2048 32) (u : Fin 65536) (k : Fin 32) : (cosines p : FVec Ideal S65536x32 .f32) (ix2 u k) =
    Ideal.cos (Rope.angle (p (ix2 ⟨u.val / 2048, by omega⟩ ⟨u.val % 2048, by omega⟩)) k) := by
  rw [← angles_at]
  unfold cosines
  generalize (angles p : FVec Ideal S32x2048x32 .f32) = A
  pointwise []

/-- A sine. -/
theorem sines_at (p : IVec S32x2048 32) (u : Fin 65536) (k : Fin 32) : (sines p : FVec Ideal S65536x32 .f32) (ix2 u k) =
    Ideal.sin (Rope.angle (p (ix2 ⟨u.val / 2048, by omega⟩ ⟨u.val % 2048, by omega⟩)) k) := by
  rw [← angles_at]
  unfold sines
  generalize (angles p : FVec Ideal S32x2048x32 .f32) = A
  pointwise []

/-- Four blocks, of which the first is the third and the second the fourth: a lane is the lane modulo 32 of the block of its half. -/
theorem four_at (a b : FVec Ideal S65536x32 .f32) (u : Fin 65536) (l : Fin 128) :
    four a b a b (ix2 u l) = if l.val % 64 < 32 then a (ix2 u ⟨l.val % 32, by omega⟩) else b (ix2 u ⟨l.val % 32, by omega⟩) := by
  pointwise [four]
  have e : ∀ (x : FVec Ideal S65536x32 .f32) (i j : Fin 32), i.val = j.val → x (ix2 u i) = x (ix2 u j) :=
    fun x i j h => congrArg (fun k => x (ix2 u k)) (Fin.ext h)
  by_cases h : l.val % 64 < 32
  · rw [if_pos h]
    split
    · exact e a _ _ (by simp only; omega)
    · rw [dif_neg (by omega), dif_pos (by omega)]
      exact e a _ _ (by simp only; omega)
  · rw [if_neg h, dif_neg (by omega)]
    split
    · exact e b _ _ (by simp only; omega)
    · rw [dif_neg (by omega)]
      exact e b _ _ (by simp only; omega)

/-- A lane of the cosine table. -/
theorem cosTable_at (p : IVec S32x2048 32) (u : Fin 65536) (l : Fin 128) : (cosTable p : FVec Ideal S65536x128 .f32) (ix2 u l) =
    Rope.cosLane (p (ix2 ⟨u.val / 2048, by omega⟩ ⟨u.val % 2048, by omega⟩)) l := by
  unfold cosTable
  rw [four_at, ite_self, cosines_at]
  rfl

/-- A lane of the sine table. -/
theorem sinTable_at (p : IVec S32x2048 32) (u : Fin 65536) (l : Fin 128) : (sinTable p : FVec Ideal S65536x128 .f32) (ix2 u l) =
    Rope.sinLane (p (ix2 ⟨u.val / 2048, by omega⟩ ⟨u.val % 2048, by omega⟩)) l := by
  unfold sinTable Rope.sinLane
  rw [four_at, ← sines_at]
  rfl

end Cert.RopeReferenceIdeal.Value
-- ==== Proof.RopeValue.lean ====
/- What the rotary tables' launch leaves in its two results, in terms of the token positions. -/
module

public import proofs.«01_k».proof.Proof.Gen.RopeIdeal.Frame
public import proofs.«01_k».proof.Proof.RopeRef
public import Idealize.ShloMosaic.Lib.StableHlo.ReadAt
public import Idealize.ShloMosaic.Lib.Pipeline.Covers
public import Idealize.ShloMosaic.Lib.Pipeline.ValueKit
public import Idealize.ShloMosaic.Lib.Pipeline.ReadBack

@[expose] public section

set_option maxRecDepth 16384

noncomputable section

namespace Cert.RopeIdeal.Row

open Cert.RopeIdeal Cert.RopeIdeal.Gen Idealize.ShloMosaic Idealize.ShloMosaic.TcCoe Idealize.SL.Sem

variable (m : (ℓ : Loc nD τ sig) → Buf (Elt Ideal) ℓ) (c : Dev nD) (t : Fin cfg0.N)

/-- The position of token `u`, which is token `u % 2048` of sequence `u / 2048`. -/
def posArg (u : Fin 65536) : BitVec 32 :=
  (m ((c.tc : Thread nD τ).loc main_arg0) : IVec S32x2048 32) (ix2 ⟨u.val / 2048, by omega⟩ ⟨u.val % 2048, by omega⟩)

/-- The frequencies the launch reads: 32 of them, four times. -/
theorem V_freq (l : Fin 128) : (V m c main_v9 : FVec Ideal S1x128 .f32) (ix2 0 l) = Rope.freq ⟨l.val % 32, by omega⟩ := by
  unfold V
  after_reads_at
  rfl

/-- The signs the launch reads: minus one in the first half of each head, one in the second. -/
theorem V_sign (l : Fin 128) : (V m c main_v17 : FVec Ideal S1x128 .f32) (ix2 0 l) = if l.val % 64 < 32 then (-1 : EReal) else (1 : EReal) := by
  unfold V
  after_reads_at
  after_reads_at
  exact dite_eq_ite

/-- The positions the launch reads, one row for each token. -/
theorem V_pos (u : Fin 65536) : (V m c main_v18 : IVec S65536x1 32) (ix2 u 0) = posArg m c u := by
  unfold V posArg
  after_reads_at

/-- The blocks of window 0, point by point. -/
theorem index0 : ∀ t : Fin cfg0.N, win0_0.index t 0 = t.val ∧ win0_0.index t 1 = 0 := (by decide +kernel : ∀ t : Fin grid0.N, win0_0.index t 0 = t.val ∧ win0_0.index t 1 = 0)
/-- The blocks of window 1, point by point. -/
theorem index1 : ∀ t : Fin cfg0.N, win0_1.index t 0 = 0 ∧ win0_1.index t 1 = 0 := (by decide +kernel : ∀ t : Fin grid0.N, win0_1.index t 0 = 0 ∧ win0_1.index t 1 = 0)
/-- The blocks of window 2, point by point. -/
theorem index2 : ∀ t : Fin cfg0.N, win0_2.index t 0 = 0 ∧ win0_2.index t 1 = 0 := (by decide +kernel : ∀ t : Fin grid0.N, win0_2.index t 0 = 0 ∧ win0_2.index t 1 = 0)
/-- The blocks of window 3, point by point. -/
theorem index3 : ∀ t : Fin cfg0.N, win0_3.index t 0 = t.val ∧ win0_3.index t 1 = 0 := (by decide +kernel : ∀ t : Fin grid0.N, win0_3.index t 0 = t.val ∧ win0_3.index t 1 = 0)
/-- The blocks of window 4, point by point. -/
theorem index4 : ∀ t : Fin cfg0.N, win0_4.index t 0 = t.val ∧ win0_4.index t 1 = 0 := (by decide +kernel : ∀ t : Fin grid0.N, win0_4.index t 0 = t.val ∧ win0_4.index t 1 = 0)

/-- There are 64 points. -/
theorem pt_lt (t : Fin cfg0.N) : t.val < 64 := lt_of_lt_of_eq t.isLt Gen.N_0

/-- Row `r` of a point's row block. -/
def row (r : Fin 1024) : Fin 65536 := ⟨t.val * 1024 + r, by have := pt_lt t; omega⟩

/-- The positions' block. -/
theorem blk0 (r : Fin 1024) : (iblk m c 0 t : IVec S1024x1 32) (ix2 r 0) = posArg m c (row t r) := by
  rw [← V_pos]
  unfold row
  blk_simp [iblk]
  blk_ext! [(index0 t).1, (index0 t).2]

/-- The frequencies, whole. -/
theorem blk1 (l : Fin 128) : (iblk m c 1 t : FVec Ideal S1x128 .f32) (ix2 0 l) = Rope.freq ⟨l.val % 32, by omega⟩ := by
  rw [← V_freq m c]
  blk_simp [iblk]
  blk_ext! [(index1 t).1, (index1 t).2]

/-- The signs, whole. -/
theorem blk2 (l : Fin 128) : (iblk m c 2 t : FVec Ideal S1x128 .f32) (ix2 0 l) = if l.val % 64 < 32 then (-1 : EReal) else (1 : EReal) := by
  rw [← V_sign m c]
  blk_simp [iblk]
  blk_ext! [(index2 t).1, (index2 t).2]

/-- The cosines the body computes. -/
theorem pay2_at (p : IVec S1024x1 32) (f : FVec Ideal S1x128 .f32) (r : Fin 1024) (l : Fin 128) :
    (k0_pay2 (F := Ideal) p f : FVec Ideal S1024x128 .f32) (ix2 r l) = Ideal.cos ((((p (ix2 r 0)).toInt : ℝ) : EReal) * f (ix2 0 l)) := by
  pointwise [k0_pay2, k0_pay1]
  rfl

/-- The signed sines the body computes. -/
theorem pay3_at (p : IVec S1024x1 32) (f s : FVec Ideal S1x128 .f32) (r : Fin 1024) (l : Fin 128) :
    (k0_pay3 (F := Ideal) p f s : FVec Ideal S1024x128 .f32) (ix2 r l) =
      Ideal.sin ((((p (ix2 r 0)).toInt : ℝ) : EReal) * f (ix2 0 l)) * s (ix2 0 l) := by
  pointwise [k0_pay3, k0_pay1]
  rfl

/-- The first store of a point is the cosines of its tokens. -/
theorem out3_eq : out0_3 (iblk m c 0 t) (iblk m c 1 t) (iblk m c 2 t) = k0_pay2 (iblk m c 0 t) (iblk m c 1 t) := by
  unfold out0_3
  frame_out

/-- The second store of a point is the signed sines of its tokens. -/
theorem out4_eq : out0_4 (iblk m c 0 t) (iblk m c 1 t) (iblk m c 2 t) = k0_pay3 (iblk m c 0 t) (iblk m c 1 t) (iblk m c 2 t) := by
  unfold out0_4
  frame_out

/-- A lane of the first store. -/
theorem cos_at (r : Fin 1024) (l : Fin 128) : (k0_pay2 (iblk m c 0 t) (iblk m c 1 t) : FVec Ideal S1024x128 .f32) (ix2 r l) =
    Rope.cosLane (posArg m c (row t r)) l := by
  rw [pay2_at, blk0, blk1]
  rfl

/-- A lane of the second store. -/
theorem sin_at (r : Fin 1024) (l : Fin 128) :
    (k0_pay3 (iblk m c 0 t) (iblk m c 1 t) (iblk m c 2 t) : FVec Ideal S1024x128 .f32) (ix2 r l) = Rope.sinLane (posArg m c (row t r)) l := by
  rw [pay3_at, blk0, blk1, blk2]
  unfold Rope.sinLane
  split
  · rw [mul_neg, mul_one]; rfl
  · rw [mul_one]; rfl

/-- The first result, of the positions. -/
def cosArr : FVec Ideal S65536x128 .f32 := fun i => Rope.cosLane (posArg m c ⟨(i 0).val, (i 0).isLt⟩) ⟨(i 1).val, (i 1).isLt⟩

/-- The second result, of the positions. -/
def sinArr : FVec Ideal S65536x128 .f32 := fun i => Rope.sinLane (posArg m c ⟨(i 0).val, (i 0).isLt⟩) ⟨(i 1).val, (i 1).isLt⟩

/-- The blocks of the first result cover it. -/
theorem covers3 : (cfg0.win 3).Covers :=
  (cfg0.win 3).covers_of_index_surj rfl (by decide) fun β => by
    have h0 : (β 0).val < 64 := lt_of_lt_of_eq (β 0).isLt (by decide : (cfg0.win 3).nblk 0 = 64)
    have h1 : (β 1).val < 1 := lt_of_lt_of_eq (β 1).isLt (by decide : (cfg0.win 3).nblk 1 = 1)
    have hi := index3 ⟨(β 0).val, lt_of_lt_of_eq h0 Gen.N_0.symm⟩
    refine ⟨⟨(β 0).val, lt_of_lt_of_eq h0 Gen.N_0.symm⟩, fun a => ?_⟩
    match a with
    | ⟨0, _⟩ => exact hi.1
    | ⟨1, _⟩ => exact hi.2.trans (Nat.lt_one_iff.mp h1).symm

/-- The first result ends at its array. -/
theorem cos_arr : (dats m 0 c).arrAt 3 cfg0.N = cosArr m c := by
  refine (dats m 0 c).arrAt_eq_of_covers 3 _ covers3 fun t hf y => ?_
  blk_simp
  rw [after0_3, out3_eq]
  idx_vars y
  refine (cos_at m c t y0 y1).trans ?_
  refine Eq.trans (b := cosArr m c (ix2 (row t y0) y1)) rfl (congrArg (cosArr m c) ?_)
  unfold row
  blk_ext! [(index3 t).1, (index3 t).2]

/-- The blocks of the second result cover it. -/
theorem covers4 : (cfg0.win 4).Covers :=
  (cfg0.win 4).covers_of_index_surj rfl (by decide) fun β => by
    have h0 : (β 0).val < 64 := lt_of_lt_of_eq (β 0).isLt (by decide : (cfg0.win 4).nblk 0 = 64)
    have h1 : (β 1).val < 1 := lt_of_lt_of_eq (β 1).isLt (by decide : (cfg0.win 4).nblk 1 = 1)
    have hi := index4 ⟨(β 0).val, lt_of_lt_of_eq h0 Gen.N_0.symm⟩
    refine ⟨⟨(β 0).val, lt_of_lt_of_eq h0 Gen.N_0.symm⟩, fun a => ?_⟩
    match a with
    | ⟨0, _⟩ => exact hi.1
    | ⟨1, _⟩ => exact hi.2.trans (Nat.lt_one_iff.mp h1).symm

/-- The second result ends at its array. -/
theorem sin_arr : (dats m 0 c).arrAt 4 cfg0.N = sinArr m c := by
  refine (dats m 0 c).arrAt_eq_of_covers 4 _ covers4 fun t hf y => ?_
  blk_simp
  rw [after0_4, out4_eq]
  idx_vars y
  refine (sin_at m c t y0 y1).trans ?_
  refine Eq.trans (b := sinArr m c (ix2 (row t y0) y1)) rfl (congrArg (sinArr m c) ?_)
  unfold row
  blk_ext! [(index4 t).1, (index4 t).2]

/-- The program ends with its two results at their arrays and its argument as it was. -/
theorem run_results (ρ : Dev nD → PrngReg) : θ_run defs (onTc (τ := τ) (main (F := Ideal))) ⟨m, fun _ => 0, ρ⟩ fun r => ∀ c : Dev nD,
      r.2.mem ((c.tc : Thread nD τ).loc main_v19_0) = cosArr m c
      ∧ r.2.mem ((c.tc : Thread nD τ).loc main_v19_1) = sinArr m c
      ∧ r.2.mem ((c.tc : Thread nD τ).loc main_arg0) = m ((c.tc : Thread nD τ).loc main_arg0) :=
  (θ_run defs _ _).mono (fun r h c => ⟨((h c).1 3).trans (cos_arr m c), ((h c).1 4).trans (sin_arr m c),
    ((h c).2 main_arg0 (Pipeline.mem_restRefs_of main_arg0 (by decide) (by decide))).trans (V_main_arg0 m c)⟩) (run_main m ρ)

end Cert.RopeIdeal.Row
-- ==== Proof.ConfRef.lean ====
/- The convolution module's mathematics on one token, and its reference's result at an index. -/
module

public import proofs.«01_k».proof.Proof.Gen.ConfReferenceIdeal.Run
public import proofs.«01_k».proof.Proof.MergeRef
public import Idealize.ShloMosaic.Lib.Pointwise
public import Idealize.ShloMosaic.Lib.Pipeline.ValueKit

@[expose] public section

set_option maxRecDepth 16384

noncomputable section

namespace Conf

open Idealize.ShloMosaic

/-- A number times the logistic of another. -/
def glu (a g : EReal) : EReal := a * Ideal.div 1 (1 + Ideal.exp (-g))

/-- The first `n` terms of `f`, added one after another to `z`. -/
def acc (z : EReal) (f : ℕ → EReal) : ℕ → EReal
  | 0 => z
  | n + 1 => acc z f n + f n

theorem acc_start (z : EReal) (f : ℕ → EReal) : ∀ n, acc z f n = acc 0 f n + z
  | 0 => (zero_add z).symm
  | n + 1 => by unfold acc; rw [acc_start z f n]; exact add_right_comm _ _ _

theorem acc_congr (z : EReal) {f g : ℕ → EReal} : ∀ {n : ℕ}, (∀ k, k < n → f k = g k) → acc z f n = acc z g n
  | 0, _ => rfl
  | n + 1, h => by unfold acc; rw [acc_congr z fun k hk => h k (Nat.lt_succ_of_lt hk), h n (Nat.lt_succ_self n)]

/-- The gated input of token `u` at channel `x`. -/
def gluAt (h : Fin 65536 → Fin 9728 → EReal) (u : ℕ) (x : Fin 1024) : EReal :=
  if hu : u < 65536 then glu (h ⟨u, hu⟩ ⟨6144 + x, by omega⟩) (h ⟨u, hu⟩ ⟨7168 + x, by omega⟩) else 0

/-- The gated input `30 - k` tokens before token `u`, or zero before its sequence's first token. -/
def past (h : Fin 65536 → Fin 9728 → EReal) (u k : ℕ) (x : Fin 1024) : EReal :=
  if 30 ≤ u % 2048 + k then gluAt h (u + k - 30) x else 0

/-- Tap `k` of the filter at channel `x`. -/
def tap (w : Fin 31 → Fin 1024 → EReal) (k : ℕ) (x : Fin 1024) : EReal := if hk : k < 31 then w ⟨k, hk⟩ x else 0

/-- The convolution at token `u` and channel `x`. -/
def conv (h : Fin 65536 → Fin 9728 → EReal) (w : Fin 31 → Fin 1024 → EReal) (b : Fin 1024 → EReal) (u : ℕ) (x : Fin 1024) : EReal :=
  acc (b x) (fun k => tap w k x * past h u k x) 31

/-- A row's layer norm times its logistic. -/
def act (f g b : Fin 1024 → EReal) (x : Fin 1024) : EReal := glu (Merge.norm f g b x) (Merge.norm f g b x)

end Conf

namespace Cert.ConfReferenceIdeal.Value

open Cert.ConfReferenceIdeal Cert.ConfReferenceIdeal.Gen Idealize.ShloMosaic Idealize.ShloMosaic.TcCoe Idealize.SL.Sem Idealize.ShloMosaic.StableHlo

variable (V0 : Valuation τ sig (Elt Ideal))

def hIn (u : Fin 65536) (j : Fin 9728) : EReal := (V0 (Proc.devRef .tc main_arg0) : FVec Ideal S65536x9728 .bf16) (ix2 u j)
def wIn (k : Fin 31) (x : Fin 1024) : EReal := (V0 (Proc.devRef .tc main_arg1) : FVec Ideal S31x1024 .f32) (ix2 k x)
def bIn (x : Fin 1024) : EReal := (V0 (Proc.devRef .tc main_arg2) : FVec Ideal S1024 .f32) (ix1 x)
def gIn (x : Fin 1024) : EReal := (V0 (Proc.devRef .tc main_arg3) : FVec Ideal S1024 .f32) (ix1 x)
def sIn (x : Fin 1024) : EReal := (V0 (Proc.devRef .tc main_arg4) : FVec Ideal S1024 .f32) (ix1 x)
def pIn (k y : Fin 1024) : EReal := (V0 (Proc.devRef .tc main_arg5) : FVec Ideal S1024x1024 .f32) (ix2 k y)

/-- The gates and their inputs, by sequence. -/
theorem v2_at (n : Fin 32) (s j : Fin 2048) : (res_main_v2 V0 : FVec Ideal S32x2048x2048 .f32) (ix3 n s j) =
    hIn V0 ⟨n * 2048 + s, by omega⟩ ⟨6144 + j, by omega⟩ := by
  unfold hIn
  pointwise [res_main_v2]

/-- The gated input with 30 zeros before each sequence. -/
theorem v12_at (n : Fin 32) (s : Fin 2078) (x : Fin 1024) : (res_main_v12 V0 : FVec Ideal S32x2078x1024 .f32) (ix3 n s x) =
    if 30 ≤ s.val then Conf.gluAt (hIn V0) (n * 2048 + s - 30) x else 0 := by
  unfold res_main_v12
  have e := v2_at V0
  generalize res_main_v2 V0 = X at e ⊢
  pointwise []
  simp only [e]
  unfold Conf.gluAt Conf.glu
  by_cases h : 30 ≤ s.val
  · have h1 : 30 ≤ s.val ∧ s.val - 30 < 2048 := ⟨h, by omega⟩
    have h2 : n.val * 2048 + s.val - 30 < 65536 := by omega
    have h3 : n.val * 2048 + (s.val - 30) = n.val * 2048 + s.val - 30 := by omega
    rw [dif_pos h1, if_pos h, dif_pos h2]
    simp only [h3]
    simp only [← Nat.add_assoc, Nat.reduceAdd]
  · rw [dif_neg fun h' => h h'.1, if_neg h]
    simp [FloatOps.sitofp]

/-- A tap times the input it meets. -/
theorem tap_term (n : Fin 32) (s : Fin 2048) (x : Fin 1024) (k : ℕ) (hk : k < 31) (i : ℕ) (hi : i = k + s) :
    Conf.tap (wIn V0) k x * Conf.past (hIn V0) (n * 2048 + s) k x =
      wIn V0 ⟨k, hk⟩ x * if 30 ≤ i then Conf.gluAt (hIn V0) (n * 2048 + i - 30) x else 0 := by
  subst hi
  have h1 : (n.val * 2048 + s.val) % 2048 + k = k + s := by omega
  have h2 : n.val * 2048 + s.val + k = n.val * 2048 + (k + s.val) := by omega
  unfold Conf.tap Conf.past
  rw [dif_pos hk, h1, h2]

/-- The convolution's first ten taps. -/
theorem v83_at (n : Fin 32) (s : Fin 2048) (x : Fin 1024) : (res_main_v83 V0 : FVec Ideal S32x2048x1024 .f32) (ix3 n s x) =
    Conf.acc 0 (fun k => Conf.tap (wIn V0) k x * Conf.past (hIn V0) (n * 2048 + s) k x) 10 := by
  unfold res_main_v83
  have e := v12_at V0
  generalize res_main_v12 V0 = X at e ⊢
  pointwise []
  simp only [e, Conf.acc, zero_add]
  repeat' refine congrArg₂ (fun a b : EReal => a + b) ?_ ?_
  all_goals first | with_reducible rfl | exact (tap_term V0 n s x _ (by decide) _ (by first | rfl | exact (Nat.zero_add _).symm)).symm

/-- The next eleven. -/
theorem v160_at (n : Fin 32) (s : Fin 2048) (x : Fin 1024) : (res_main_v160 V0 : FVec Ideal S32x2048x1024 .f32) (ix3 n s x) =
    Conf.acc 0 (fun k => Conf.tap (wIn V0) k x * Conf.past (hIn V0) (n * 2048 + s) k x) 21 := by
  unfold res_main_v160
  have e := v12_at V0
  have e' := v83_at V0 n s x
  generalize res_main_v12 V0 = X at e ⊢
  generalize res_main_v83 V0 = Y at e' ⊢
  pointwise []
  rw [e']
  simp only [e, Conf.acc, zero_add]
  repeat' refine congrArg₂ (fun a b : EReal => a + b) ?_ ?_
  all_goals first | with_reducible rfl | exact (tap_term V0 n s x _ (by decide) _ (by first | rfl | exact (Nat.zero_add _).symm)).symm

/-- The last ten and the bias. -/
theorem v233_at (n : Fin 32) (s : Fin 2048) (x : Fin 1024) : (res_main_v233 V0 : FVec Ideal S32x2048x1024 .f32) (ix3 n s x) =
    Conf.conv (hIn V0) (wIn V0) (bIn V0) (n * 2048 + s) x := by
  unfold res_main_v233 Conf.conv
  have e := v12_at V0
  have e' := v160_at V0 n s x
  generalize res_main_v12 V0 = X at e ⊢
  generalize res_main_v160 V0 = Y at e' ⊢
  rw [Conf.acc_start]
  pointwise []
  rw [e']
  simp only [e, Conf.acc, zero_add]
  repeat' refine congrArg₂ (fun a b : EReal => a + b) ?_ ?_
  all_goals first | with_reducible rfl | rfl | exact (tap_term V0 n s x _ (by decide) _ (by first | rfl | exact (Nat.zero_add _).symm)).symm

/-- The convolution by token. -/
theorem v234_at (u : Fin 65536) (x : Fin 1024) : (res_main_v234 V0 : FVec Ideal S65536x1024 .f32) (ix2 u x) =
    Conf.conv (hIn V0) (wIn V0) (bIn V0) u x := by
  unfold res_main_v234
  have e := v233_at V0
  generalize res_main_v233 V0 = X at e ⊢
  pointwise []
  rw [e]
  refine congrArg (fun a => Conf.conv _ _ _ a x) ?_
  show u.val / 2048 * 2048 + u.val % 2048 = u.val
  omega

/-- A token's mean. -/
theorem v238_at (u : Fin 65536) : (res_main_v238 V0 : FVec Ideal S65536x1 .f32) (ix2 u 0) =
    Merge.mean (Conf.conv (hIn V0) (wIn V0) (bIn V0) u) := by
  unfold res_main_v238 Merge.mean
  have e := v234_at V0
  generalize res_main_v234 V0 = X at e ⊢
  pointwise []
  simp only [e]

/-- A token less its mean. -/
theorem v240_at (u : Fin 65536) (x : Fin 1024) : (res_main_v240 V0 : FVec Ideal S65536x1024 .f32) (ix2 u x) =
    Conf.conv (hIn V0) (wIn V0) (bIn V0) u x - Merge.mean (Conf.conv (hIn V0) (wIn V0) (bIn V0) u) := by
  unfold res_main_v240
  rw [← v234_at, ← v238_at]
  pointwise []

/-- A token's layer norm. -/
theorem v258_at (u : Fin 65536) (x : Fin 1024) : (res_main_v258 V0 : FVec Ideal S65536x1024 .f32) (ix2 u x) =
    Merge.norm (Conf.conv (hIn V0) (wIn V0) (bIn V0) u) (gIn V0) (sIn V0) x := by
  unfold res_main_v258 Merge.norm
  have e1 := v234_at V0
  have e2 := v238_at V0
  have e3 := v240_at V0
  generalize res_main_v234 V0 = X at e1 ⊢
  generalize res_main_v238 V0 = Y at e2 ⊢
  generalize res_main_v240 V0 = Z at e3 ⊢
  pointwise []
  simp only [e1, e2, e3]
  unfold Merge.mean
  rfl

/-- The reference's result, of its arguments. -/
def out : FVec Ideal S65536x1024 .bf16 :=
  truncf .bf16 (Host.dotGeneral (φ₂ := .f32) dot_S65536x1024_S1024x1024_S65536x1024_1_0_0_1_n_n none (mulf (res_main_v258 V0) (Host.divf (broadcastInDim S65536x1024 ![] bcast_S_S65536x1024 (constant S_ .f32 0x3F800000#32)) (addf (broadcastInDim S65536x1024 ![] bcast_S_S65536x1024 (constant S_ .f32 0x3F800000#32)) (Host.exp (Host.negf (res_main_v258 V0)))))) (V0 (Proc.devRef .tc main_arg5) : FVec Ideal S1024x1024 .f32)) bitsLt_bf16_f32

/-- The result at a token and a channel. -/
theorem out_at (u : Fin 65536) (y : Fin 1024) : out V0 (ix2 u y) =
    ∑ k : Fin 1024, Conf.act (Conf.conv (hIn V0) (wIn V0) (bIn V0) u) (gIn V0) (sIn V0) k * pIn V0 k y := by
  unfold out Conf.act Conf.glu pIn
  have e := v258_at V0
  generalize res_main_v258 V0 = X at e ⊢
  pointwise []
  simp only [e]

end Cert.ConfReferenceIdeal.Value
-- ==== Proof.ConfBody.lean ====
/- What the convolution module's body leaves at a grid point: the sixteen tiles it accumulates tap by tap are the blocks of
   one convolution of the 256 rows of the point and the 32 rows before them. -/
module

public import proofs.«01_k».proof.Proof.Gen.ConfIdeal.Value
public import proofs.«01_k».proof.Proof.ConfRef
public import Idealize.ShloMosaic.Lib.Pipeline.ValueKit
public import Idealize.ShloMosaic.Lib.Pipeline.ReadBack

@[expose] public section

set_option maxRecDepth 65536

noncomputable section

namespace Cert.ConfIdeal.Con

open Cert.ConfIdeal Cert.ConfIdeal.Gen Idealize.ShloMosaic Idealize.ShloMosaic.TcCoe Idealize.ShloMosaic.Tactic Idealize.SL.Sem

/-- A tile over the rows kept before it. -/
def joined (y : FVec Ideal S256x1024 .f32) (z : FVec Ideal S32x1024 .f32) : FVec Ideal S288x1024 .f32 := fun i =>
  if h : (i 0).val < 32 then z (ix2 ⟨(i 0).val, h⟩ ⟨(i 1).val, (i 1).isLt⟩)
  else y (ix2 ⟨(i 0).val - 32, by have : (i 0).val < 288 := (i 0).isLt; omega⟩ ⟨(i 1).val, (i 1).isLt⟩)

/-- A tile stored at row 32 and 32 rows stored at row 0, read back. -/
theorem canon_joined (y : FVec Ideal S256x1024 .f32) (z : FVec Ideal S32x1024 .f32) :
    View.canon (Val := Elt Ideal) (e := .f32) [⟨Rect.unit (s := S288x1024) ![32, 0] S256x1024.size inb_S288x1024_S256x1024_32_0, y⟩,
      ⟨Rect.unit (s := S288x1024) ![0, 0] S32x1024.size inb_S288x1024_S32x1024_0_0, z⟩] = joined y z := by
  funext i
  rw [← List.append_nil (_ :: _)]
  rw [View.canon_append_of_piecesOf (joined y z) [] _ ?_ i ?_]
  · refine ⟨fun x => ?_, fun x => ?_, trivial⟩
    · have e : ∀ (x0 : Fin 256) (x1 : Fin 1024), (Rect.unit (s := S288x1024) ![32, 0] S256x1024.size inb_S288x1024_S256x1024_32_0).emb (ix2 x0 x1) =
          ix2 (⟨32 + x0, by omega⟩ : Fin 288) x1 := fun x0 x1 => funext fun a => Fin.ext (by
        match a with
        | 0 => simp [Rect.emb, Rect.unit]
        | 1 => simp [Rect.emb, Rect.unit])
      idx_vars x
      refine Eq.trans ?_ (congrArg (joined y z) (e x0 x1)).symm
      have h : ¬32 + x0.val < 32 := by omega
      refine Eq.trans ?_ (dif_neg h).symm
      exact congrArg (fun r => y (ix2 r x1)) (Fin.ext (Nat.add_sub_cancel_left ..).symm)
    · have e : ∀ (x0 : Fin 32) (x1 : Fin 1024), (Rect.unit (s := S288x1024) ![0, 0] S32x1024.size inb_S288x1024_S32x1024_0_0).emb (ix2 x0 x1) =
          ix2 (⟨x0, by omega⟩ : Fin 288) x1 := fun x0 x1 => funext fun a => Fin.ext (by
        match a with
        | 0 => simp [Rect.emb, Rect.unit]
        | 1 => simp [Rect.emb, Rect.unit])
      idx_vars x
      refine Eq.trans ?_ (congrArg (joined y z) (e x0 x1)).symm
      have h : x0.val < 32 := x0.isLt
      refine Eq.trans ?_ (dif_pos h).symm
      rfl
  · exact View.cover_of_tiledBy _ ![32, 1024] (by sl_kernel_rfl) i

/-- A load of that buffer. -/
theorem load_joined (v : View sig .tc .vmem S288x1024 .f32) (y : FVec Ideal S256x1024 .f32) (z : FVec Ideal S32x1024 .f32) (r : Rect S288x1024) :
    v.readCov (Val := Elt Ideal) [⟨Rect.unit (s := S288x1024) ![32, 0] S256x1024.size inb_S288x1024_S256x1024_32_0, y⟩,
      ⟨Rect.unit (s := S288x1024) ![0, 0] S32x1024.size inb_S288x1024_S32x1024_0_0, z⟩] r.toLoadRect = View.ld (joined y z) r := by
  rw [View.readCov_eq_canon', canon_joined]

/-- A window of a block, at a lane. -/
theorem ld_at {n0 n1 m0 m1 : ℕ} (X : FVec Ideal ⟨2, ![n0, n1]⟩ .f32) (o0 o1 : ℕ)
    (h : ∀ a, (![o0, o1] : Fin 2 → ℕ) a + (![m0, m1] : Fin 2 → ℕ) a ≤ (![n0, n1] : Fin 2 → ℕ) a) (r : Fin m0) (j : Fin m1) :
    (View.ld (Val := Elt Ideal) (e' := .f32) X (Rect.unit (s := ⟨2, ![n0, n1]⟩) ![o0, o1] ![m0, m1] h) : FVec Ideal ⟨2, ![m0, m1]⟩ .f32) (ix2 r j) =
      X (ix2 ⟨o0 + r, by have := h 0; simp at this; omega⟩ ⟨o1 + j, by have := h 1; simp at this; omega⟩) := by
  refine congrArg X (funext fun a => Fin.ext ?_)
  match a with
  | 0 => simp [Rect.unit, LoadRect.idx]
  | 1 => simp [Rect.unit, LoadRect.idx]

/-- Where a window's lane lies in its block. -/
theorem emb_at {n0 n1 m0 m1 : ℕ} (o0 o1 : ℕ) (h : ∀ a, (![o0, o1] : Fin 2 → ℕ) a + (![m0, m1] : Fin 2 → ℕ) a ≤ (![n0, n1] : Fin 2 → ℕ) a)
    (r : Fin m0) (j : Fin m1) : (Rect.unit (s := ⟨2, ![n0, n1]⟩) ![o0, o1] ![m0, m1] h).emb (ix2 r j) =
      ix2 (⟨o0 + r, by have := h 0; simp at this; omega⟩ : Fin n0) (⟨o1 + j, by have := h 1; simp at this; omega⟩ : Fin n1) := by
  funext a
  apply Fin.ext
  match a with
  | 0 => simp [Rect.emb, Rect.unit]
  | 1 => simp [Rect.emb, Rect.unit]

/-- The offset of a whole block. -/
theorem hz : (![0, 0] : Fin 2 → ℕ) = fun _ => 0 := by decide

/-- The rows convolved with the filter's taps, each channel by itself. -/
def convG (E : FVec Ideal S288x1024 .f32) (w : FVec Ideal S32x1024 .f32) (b : FVec Ideal S1x1024 .f32) : FVec Ideal S256x1024 .f32 := fun i =>
  Conf.acc (b (ix2 0 ⟨(i 1).val, (i 1).isLt⟩)) (fun k => if hk : k < 31 then w (ix2 ⟨k, by omega⟩ ⟨(i 1).val, (i 1).isLt⟩) *
    E (ix2 ⟨k + 2 + (i 0).val, by have : (i 0).val < 256 := (i 0).isLt; omega⟩ ⟨(i 1).val, (i 1).isLt⟩) else 0) 31

/-- The convolution at a lane. -/
theorem convG_at (E : FVec Ideal S288x1024 .f32) (w : FVec Ideal S32x1024 .f32) (b : FVec Ideal S1x1024 .f32) (i : Fin 256) (j : Fin 1024) :
    convG E w b (ix2 i j) = Conf.acc (b (ix2 0 j)) (fun k => if hk : k < 31 then w (ix2 ⟨k, by omega⟩ j) * E (ix2 ⟨k + 2 + i, by omega⟩ j) else 0) 31 := rfl

section Body

variable (c : Dev nD) (i : grid0.Coords) (arg2 : Memref sig .tc .vmem S256x2048 .bf16) (harg2 : arg2.IsWhole) (arg3 : Memref sig .tc .vmem S32x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x1024 .bf16) (harg7 : arg7.IsWhole)
    (arg8 : Memref sig .tc .vmem S256x1024 .bf16) (harg8 : arg8.IsWhole) (arg9 : Memref sig .tc .vmem S288x1024 .f32) (harg9 : arg9.IsWhole)
    (arg10 : Memref sig .tc .vmem S256x1024 .f32) (harg10 : arg10.IsWhole)
    (x0 : Vec Ideal S256x2048 .bf16) (x1 : Vec Ideal S32x1024 .f32) (x2 : Vec Ideal S1x1024 .f32) (x3 : Vec Ideal S1x1024 .f32) (x4 : Vec Ideal S1x1024 .f32)
    (x5 : Vec Ideal S1024x1024 .bf16)

/-- What the body stores, from the tile's inputs and the 32 rows before it. -/
def stored (z : FVec Ideal S32x1024 .f32) : FVec Ideal S256x1024 .bf16 :=
  k0_pay1 (k0_pay158 (convG (joined (k0_pay4 x0) z) x1 x2) x3 x4) x5

set_option maxHeartbeats 40000000 in
/-- The body's store: at a sequence's first tile the rows before it are zeros, at a later one they are the carried buffer's last. -/
theorem out_eq :
    (∀ hc0 hc1, out0_A_6 c i arg2 harg2 arg3 harg3 arg4 harg4 arg5 harg5 arg6 harg6 arg7 harg7 arg8 harg8 arg9 harg9 arg10 harg10 hc0 hc1 x0 x1 x2 x3 x4 x5 = stored x0 x1 x2 x3 x4 x5 k0_pay2) ∧
      ∀ hc0 hc1 xs0, out0_B_6 c i arg2 harg2 arg3 harg3 arg4 harg4 arg5 harg5 arg6 harg6 arg7 harg7 arg8 harg8 arg9 harg9 arg10 harg10 hc0 hc1 x0 x1 x2 x3 x4 x5 xs0 = stored x0 x1 x2 x3 x4 x5 (k0_pay3 (View.ld xs0 (Rect.unit (s := S288x1024) ![256, 0] S32x1024.size inb_S288x1024_S32x1024_256_0))) := by
  unfold stored out0_A_6 out0_B_6
  refine ⟨fun hc0 hc1 => ?_, fun hc0 hc1 xs0 => ?_⟩
  all_goals
    frame_open
    simp only [↓ load_joined, View.read_writes_junk_eq_canon, View.readAt_eq_ld, harg2.read_unread, harg3.read_unread, harg4.read_unread,
      harg5.read_unread, harg6.read_unread, harg7.read_unread, harg9.read_unread]
    rw [View.canon_unit_zero hz, View.ld_unit_zero hz, View.ld_unit_zero hz, View.ld_unit_zero hz, View.ld_unit_zero hz]
    generalize joined _ _ = E
    rw [View.readCov_eq_canon']
    refine congrArg (fun o => k0_pay1 (k0_pay158 o _ _) _) ?_
    funext y
    generalize hB : (Rect.unit (s := S256x1024) ![0, 0] S256x1024.size inb_S256x1024_S256x1024_0_0).toLoadRect.idx y = z
    rw [← List.append_nil (_ :: _)]
    rw [View.canon_append_of_piecesOf (convG E x1 x2) [] _ ?_ z ?_]
    · refine congrArg _ (hB.symm.trans (funext fun a => Fin.ext ?_))
      match a with
      | 0 => simp [LoadRect.idx, Rect.unit]
      | 1 => simp [LoadRect.idx, Rect.unit]
    · refine ⟨?_, ?_, ?_, ?_, ?_, ?_, ?_, ?_, ?_, ?_, ?_, ?_, ?_, ?_, ?_, ?_, trivial⟩
      all_goals
        intro x
        idx_vars x
        refine Eq.trans ?_ (congrArg (convG E _ _) (emb_at _ _ _ x0 x1)).symm
        refine Eq.trans ?_ (convG_at ..).symm
        simp only [Conf.acc]
        pointwise [k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30,
        k0_pay31, k0_pay32, k0_pay33, k0_pay34, k0_pay35, k0_pay36, k0_pay37, k0_pay38, k0_pay39, k0_pay40, k0_pay41, k0_pay42, k0_pay43,
        k0_pay44, k0_pay45, k0_pay46, k0_pay47, k0_pay48, k0_pay49, k0_pay50, k0_pay51, k0_pay52, k0_pay53, k0_pay54, k0_pay55, k0_pay56,
        k0_pay57, k0_pay58, k0_pay59, k0_pay60, k0_pay61, k0_pay62, k0_pay63, k0_pay64, k0_pay65, k0_pay66, k0_pay67, k0_pay68, k0_pay69,
        k0_pay70, k0_pay71, k0_pay72, k0_pay73, k0_pay74, k0_pay75, k0_pay76, k0_pay77, k0_pay78, k0_pay79, k0_pay80, k0_pay81, k0_pay82,
        k0_pay83, k0_pay84, k0_pay85, k0_pay86, k0_pay87, k0_pay88, k0_pay89, k0_pay90, k0_pay91, k0_pay92, k0_pay93, k0_pay94, k0_pay95,
        k0_pay96, k0_pay97, k0_pay98, k0_pay99, k0_pay100, k0_pay101, k0_pay102, k0_pay103, k0_pay104, k0_pay105, k0_pay106, k0_pay107,
        k0_pay108, k0_pay109, k0_pay110, k0_pay111, k0_pay112, k0_pay113, k0_pay114, k0_pay115, k0_pay116, k0_pay117, k0_pay118, k0_pay119,
        k0_pay120, k0_pay121, k0_pay122, k0_pay123, k0_pay124, k0_pay125, k0_pay126, k0_pay127, k0_pay128, k0_pay129, k0_pay130, k0_pay131,
        k0_pay132, k0_pay133, k0_pay134, k0_pay135, k0_pay136, k0_pay137, k0_pay138, k0_pay139, k0_pay140, k0_pay141, k0_pay142, k0_pay143,
        k0_pay144, k0_pay145, k0_pay146, k0_pay147, k0_pay148, k0_pay149, k0_pay150, k0_pay151, k0_pay152, k0_pay153, k0_pay154, k0_pay155,
        k0_pay156, k0_pay157]
        try simp only [← Nat.add_assoc, Nat.reduceAdd]
    · exact View.cover_of_tiledL _ ![64, 256] (by rfl) z

set_option maxHeartbeats 4000000 in
/-- The body's carried buffer: the tile over the rows before it. -/
theorem kept_eq :
    (∀ hc0 hc1, sout0_A_0 c i arg2 harg2 arg3 harg3 arg4 harg4 arg5 harg5 arg6 harg6 arg7 harg7 arg8 harg8 arg9 harg9 arg10 harg10 hc0 hc1 x0 x1 x2 x3 x4 x5 = joined (k0_pay4 x0) k0_pay2) ∧
      ∀ hc0 hc1 xs0, sout0_B_0 c i arg2 harg2 arg3 harg3 arg4 harg4 arg5 harg5 arg6 harg6 arg7 harg7 arg8 harg8 arg9 harg9 arg10 harg10 hc0 hc1 x0 x1 x2 x3 x4 x5 xs0 = joined (k0_pay4 x0) (k0_pay3 (View.ld xs0 (Rect.unit (s := S288x1024) ![256, 0] S32x1024.size inb_S288x1024_S32x1024_256_0))) := by
  unfold sout0_A_0 sout0_B_0
  refine ⟨fun hc0 hc1 => ?_, fun hc0 hc1 xs0 => ?_⟩
  all_goals
    frame_open
    rw [View.read_writes_junk_eq_canon, canon_joined]
    simp only [View.readAt_eq_ld, harg2.read_unread, harg9.read_unread]
    rw [View.ld_unit_zero hz]

end Body

end Cert.ConfIdeal.Con
-- ==== Proof.ConfValue.lean ====
/- What the convolution module's launch leaves in its result, in terms of the program's arguments. -/
module

public import proofs.«01_k».proof.Proof.ConfBody
public import Idealize.ShloMosaic.Lib.StableHlo.ReadAt
public import Idealize.ShloMosaic.Lib.Pipeline.Covers

@[expose] public section

set_option maxRecDepth 16384

noncomputable section

namespace Cert.ConfIdeal.Con

open Cert.ConfIdeal Cert.ConfIdeal.Gen Idealize.ShloMosaic Idealize.ShloMosaic.TcCoe Idealize.SL.Sem

variable (m : (ℓ : Loc nD τ sig) → Buf (Elt Ideal) ℓ) (c : Dev nD) (t : Fin cfg0.N)

/-! ## The program's arguments as functions of their coordinates -/

def hArg (u : Fin 65536) (j : Fin 9728) : EReal := (m ((c.tc : Thread nD τ).loc main_arg0) : FVec Ideal S65536x9728 .bf16) (ix2 u j)
def wArg (k : Fin 31) (x : Fin 1024) : EReal := (m ((c.tc : Thread nD τ).loc main_arg1) : FVec Ideal S31x1024 .f32) (ix2 k x)
def bArg (x : Fin 1024) : EReal := (m ((c.tc : Thread nD τ).loc main_arg2) : FVec Ideal S1024 .f32) (ix1 x)
def gArg (x : Fin 1024) : EReal := (m ((c.tc : Thread nD τ).loc main_arg3) : FVec Ideal S1024 .f32) (ix1 x)
def sArg (x : Fin 1024) : EReal := (m ((c.tc : Thread nD τ).loc main_arg4) : FVec Ideal S1024 .f32) (ix1 x)
def pArg (k y : Fin 1024) : EReal := (m ((c.tc : Thread nD τ).loc main_arg5) : FVec Ideal S1024x1024 .f32) (ix2 k y)

/-! ## The arrays the launch reads, as the host operations before it leave them -/

/-- The taps as the launch reads them: a row of zeros is added. -/
theorem V_w (k : Fin 32) (x : Fin 1024) : (V m c main_v0 : FVec Ideal S32x1024 .f32) (ix2 k x) = Conf.tap (wArg m c) k x := by
  unfold V Conf.tap
  after_reads_at
  refine dite_congr rfl (fun _ => rfl) fun _ => ?_
  simp [FloatOps.sitofp]

/-- The bias as the launch reads it. -/
theorem V_b (x : Fin 1024) : (V m c main_v1 : FVec Ideal S1x1024 .f32) (ix2 0 x) = bArg m c x := by
  unfold V
  after_reads_at
  rfl

/-- The norm's scale as the launch reads it. -/
theorem V_g (x : Fin 1024) : (V m c main_v2 : FVec Ideal S1x1024 .f32) (ix2 0 x) = gArg m c x := by
  unfold V
  after_reads_at
  rfl

/-- The norm's shift as the launch reads it. -/
theorem V_s (x : Fin 1024) : (V m c main_v3 : FVec Ideal S1x1024 .f32) (ix2 0 x) = sArg m c x := by
  unfold V
  after_reads_at
  rfl

/-- The output weights as the launch reads them. -/
theorem V_p (k y : Fin 1024) : (V m c main_v4 : FVec Ideal S1024x1024 .bf16) (ix2 k y) = pArg m c k y := by
  unfold V
  after_reads_at
  rfl

/-! ## The windows' blocks -/

/-- The 256 points go through the row blocks of 256 tokens in order, eight to a sequence. -/
theorem index0 : ∀ t : Fin cfg0.N, win0_0.index t 0 = t.val ∧ win0_0.index t 1 = 3 := (by decide +kernel : ∀ t : Fin grid0.N, win0_0.index t 0 = t.val ∧ win0_0.index t 1 = 3)
theorem index1 : ∀ t : Fin cfg0.N, win0_1.index t 0 = 0 ∧ win0_1.index t 1 = 0 := (by decide +kernel : ∀ t : Fin grid0.N, win0_1.index t 0 = 0 ∧ win0_1.index t 1 = 0)
theorem index2 : ∀ t : Fin cfg0.N, win0_2.index t 0 = 0 ∧ win0_2.index t 1 = 0 := (by decide +kernel : ∀ t : Fin grid0.N, win0_2.index t 0 = 0 ∧ win0_2.index t 1 = 0)
theorem index3 : ∀ t : Fin cfg0.N, win0_3.index t 0 = 0 ∧ win0_3.index t 1 = 0 := (by decide +kernel : ∀ t : Fin grid0.N, win0_3.index t 0 = 0 ∧ win0_3.index t 1 = 0)
theorem index4 : ∀ t : Fin cfg0.N, win0_4.index t 0 = 0 ∧ win0_4.index t 1 = 0 := (by decide +kernel : ∀ t : Fin grid0.N, win0_4.index t 0 = 0 ∧ win0_4.index t 1 = 0)
theorem index5 : ∀ t : Fin cfg0.N, win0_5.index t 0 = 0 ∧ win0_5.index t 1 = 0 := (by decide +kernel : ∀ t : Fin grid0.N, win0_5.index t 0 = 0 ∧ win0_5.index t 1 = 0)
theorem index6 : ∀ t : Fin cfg0.N, win0_6.index t 0 = t.val ∧ win0_6.index t 1 = 0 := (by decide +kernel : ∀ t : Fin grid0.N, win0_6.index t 0 = t.val ∧ win0_6.index t 1 = 0)

/-- There are 256 points. -/
theorem pt_lt (t : Fin cfg0.N) : t.val < 256 := lt_of_lt_of_eq t.isLt Gen.N_0

/-- Row `r` of a point's row block. -/
def row (r : Fin 256) : Fin 65536 := ⟨t.val * 256 + r, by have := pt_lt t; omega⟩

/-- The gates and their inputs: rows of the point, the combined projection's columns 6144 to 8191. -/
theorem blk0 (r : Fin 256) (j : Fin 2048) : (X0_0 m c t : FVec Ideal S256x2048 .bf16) (ix2 r j) =
    hArg m c (row t r) ⟨3 * 2048 + j, by omega⟩ := by
  have hm := moved0_0 t (ix2 r j)
  unfold X0_0 Pipeline.Window.fill
  rw [dif_pos hm]
  unfold hArg row
  blk_simp [iblk]
  rw [V_main_arg0]
  blk_ext! [(index0 t).1, (index0 t).2]

/-- The taps, whole. -/
theorem blk1 (k : Fin 32) (x : Fin 1024) : (iblk m c 1 t : FVec Ideal S32x1024 .f32) (ix2 k x) = Conf.tap (wArg m c) k x := by
  rw [← V_w]
  blk_simp [iblk]
  blk_ext! [(index1 t).1, (index1 t).2]

/-- The bias, whole. -/
theorem blk2 (x : Fin 1024) : (iblk m c 2 t : FVec Ideal S1x1024 .f32) (ix2 0 x) = bArg m c x := by
  rw [← V_b]
  blk_simp [iblk]
  blk_ext! [(index2 t).1, (index2 t).2]

/-- The norm's scale, whole. -/
theorem blk3 (x : Fin 1024) : (iblk m c 3 t : FVec Ideal S1x1024 .f32) (ix2 0 x) = gArg m c x := by
  rw [← V_g]
  blk_simp [iblk]
  blk_ext! [(index3 t).1, (index3 t).2]

/-- The norm's shift, whole. -/
theorem blk4 (x : Fin 1024) : (iblk m c 4 t : FVec Ideal S1x1024 .f32) (ix2 0 x) = sArg m c x := by
  rw [← V_s]
  blk_simp [iblk]
  blk_ext! [(index4 t).1, (index4 t).2]

/-- The output weights, whole. -/
theorem blk5 (k y : Fin 1024) : (iblk m c 5 t : FVec Ideal S1024x1024 .bf16) (ix2 k y) = pArg m c k y := by
  rw [← V_p]
  blk_simp [iblk]
  blk_ext! [(index5 t).1, (index5 t).2]

/-! ## The body's payloads at a lane -/

/-- A lane of the gated tile. -/
theorem pay4_at (u : FVec Ideal S256x2048 .bf16) (r : Fin 256) (x : Fin 1024) :
    (k0_pay4 u : FVec Ideal S256x1024 .f32) (ix2 r x) = Conf.glu (u (ix2 r ⟨x, by omega⟩)) (u (ix2 r ⟨1024 + x, by omega⟩)) := by
  pointwise [k0_pay4]
  rfl

/-- A lane of the normalized, gated convolution. -/
theorem pay158_at (C : FVec Ideal S256x1024 .f32) (g s : FVec Ideal S1x1024 .f32) (r : Fin 256) (x : Fin 1024) :
    (k0_pay158 C g s : FVec Ideal S256x1024 .bf16) (ix2 r x) = Conf.act (fun x => C (ix2 r x)) (fun x => g (ix2 0 x)) (fun x => s (ix2 0 x)) x := by
  pointwise [k0_pay158]
  rfl

/-- A lane of the output product. -/
theorem pay1_at (a : FVec Ideal S256x1024 .bf16) (p : FVec Ideal S1024x1024 .bf16) (r : Fin 256) (y : Fin 1024) :
    k0_pay1 a p (ix2 r y) = ∑ k : Fin 1024, a (ix2 r k) * p (ix2 k y) := by
  pointwise [k0_pay1]

/-- A row a tile leaves in the carried buffer. -/
theorem joined_low (y : FVec Ideal S256x1024 .f32) (z : FVec Ideal S32x1024 .f32) (i : Fin 288) (h : i.val < 32) (x : Fin 1024) :
    joined y z (ix2 i x) = z (ix2 ⟨i, h⟩ x) := dif_pos h

theorem joined_high (y : FVec Ideal S256x1024 .f32) (z : FVec Ideal S32x1024 .f32) (i : Fin 288) (h : ¬i.val < 32) (x : Fin 1024) :
    joined y z (ix2 i x) = y (ix2 ⟨i.val - 32, by omega⟩ x) := dif_neg h

/-! ## A point's store -/

/-- A lane of a point's gated tile. -/
theorem tile_at (r : Fin 256) (x : Fin 1024) : k0_pay4 (X0_0 m c t) (ix2 r x) = Conf.gluAt (hArg m c) (t * 256 + r) x := by
  have ht := pt_lt t
  have hu : t.val * 256 + r.val < 65536 := by omega
  rw [pay4_at, blk0, blk0]
  unfold Conf.gluAt
  rw [dif_pos hu]
  unfold row
  simp only [← Nat.add_assoc, Nat.reduceAdd, Nat.reduceMul]

/-- What a point carries: its gated tile, over some rows. -/
theorem kept : ∃ z, (outsAt0 m c t.val t.isLt).2 = joined (k0_pay4 (X0_0 m c t)) z := by
  by_cases h : t.val % 8 = 0
  · rw [outsAt0_A m c t h (by omega)]
    dsimp only
    exact ⟨_, (kept_eq ..).1 _ _⟩
  · rw [outsAt0_B m c t h (by omega)]
    dsimp only
    exact ⟨_, (kept_eq ..).2 _ _ _⟩

/-- The 32 rows before a point's: zeros before its sequence, else the last rows of the point before. -/
def before : FVec Ideal S32x1024 .f32 :=
  if t.val % 8 = 0 then k0_pay2 else
    k0_pay3 (View.ld (outsAt0 m c (t.val - 1) (Nat.lt_of_le_of_lt (Nat.sub_le _ _) t.isLt)).2
      (Rect.unit (s := S288x1024) ![256, 0] S32x1024.size inb_S288x1024_S32x1024_256_0))

/-- A point's store. -/
theorem out_pt : (outsAt0 m c t.val t.isLt).1 =
    stored (X0_0 m c t) (iblk m c 1 t) (iblk m c 2 t) (iblk m c 3 t) (iblk m c 4 t) (iblk m c 5 t) (before m c t) := by
  unfold before
  by_cases h : t.val % 8 = 0
  · rw [if_pos h, outsAt0_A m c t h (by omega)]
    dsimp only
    exact (out_eq ..).1 _ _
  · rw [if_neg h, outsAt0_B m c t h (by omega)]
    dsimp only
    exact (out_eq ..).2 _ _ _

/-- A lane of the rows before a point's. -/
theorem before_at (r : Fin 32) (x : Fin 1024) : before m c t (ix2 r x) =
    if t.val % 8 = 0 then 0 else Conf.gluAt (hArg m c) (t * 256 + r - 32) x := by
  unfold before
  by_cases h : t.val % 8 = 0
  · rw [if_pos h, if_pos h]
    pointwise [k0_pay2]
  · rw [if_neg h, if_neg h]
    obtain ⟨z, hz⟩ := kept m c ⟨t.val - 1, Nat.lt_of_le_of_lt (Nat.sub_le _ _) t.isLt⟩
    rw [hz]
    have e : ∀ X : FVec Ideal S32x1024 .f32, k0_pay3 X (ix2 r x) = X (ix2 r x) := fun X => by pointwise [k0_pay3]
    rw [e]
    refine (ld_at (joined _ z) 256 0 inb_S288x1024_S32x1024_256_0 r x).trans ?_
    rw [joined_high _ _ _ (by show ¬256 + r.val < 32; omega)]
    refine (tile_at m c _ _ _).trans ?_
    have e1 : (t.val - 1) * 256 + (256 + r.val - 32) = t.val * 256 + r.val - 32 := by omega
    have e2 : 0 + x.val = x.val := Nat.zero_add _
    simp only [e1, e2]

/-- A row of the buffer a point convolves. -/
theorem rows_at (i : Fin 288) (x : Fin 1024) : joined (k0_pay4 (X0_0 m c t)) (before m c t) (ix2 i x) =
    if 32 ≤ t.val % 8 * 256 + i then Conf.gluAt (hArg m c) (t * 256 + i - 32) x else 0 := by
  by_cases h : i.val < 32
  · rw [joined_low _ _ _ h, before_at]
    by_cases h8 : t.val % 8 = 0
    · rw [if_pos h8, if_neg (by omega)]
    · rw [if_neg h8, if_pos (by omega)]
  · rw [joined_high _ _ _ h, tile_at, if_pos (by omega)]
    have e1 : t.val * 256 + (i.val - 32) = t.val * 256 + i.val - 32 := by omega
    simp only [e1]

/-- A token's convolution. -/
theorem conv_at (r : Fin 256) (x : Fin 1024) : convG (joined (k0_pay4 (X0_0 m c t)) (before m c t)) (iblk m c 1 t) (iblk m c 2 t) (ix2 r x) =
    Conf.conv (hArg m c) (wArg m c) (bArg m c) (row t r) x := by
  rw [convG_at, blk2]
  refine Conf.acc_congr _ fun k hk => ?_
  rw [dif_pos hk, blk1, rows_at]
  refine congrArg (fun a : EReal => Conf.tap (wArg m c) k x * a) ?_
  unfold Conf.past row
  have e1 : (32 ≤ t.val % 8 * 256 + (k + 2 + r.val)) = (30 ≤ (t.val * 256 + r.val) % 2048 + k) := propext (by omega)
  have e2 : t.val * 256 + (k + 2 + r.val) - 32 = t.val * 256 + r.val + k - 30 := by omega
  simp only [e1, e2]

/-- A lane of the result, of the program's arguments. -/
def outAt (u : Fin 65536) (y : Fin 1024) : EReal :=
  ∑ k : Fin 1024, Conf.act (Conf.conv (hArg m c) (wArg m c) (bArg m c) u) (gArg m c) (sArg m c) k * pArg m c k y

/-- A lane of a point's store. -/
theorem out_at (r : Fin 256) (y : Fin 1024) : (outsAt0 m c t.val t.isLt).1 (ix2 r y) = outAt m c (row t r) y := by
  rw [out_pt]
  unfold stored outAt
  rw [pay1_at]
  simp only [pay158_at, conv_at, blk3, blk4, blk5]

/-! ## The array -/

/-- The result, of the program's arguments. -/
def outArr : FVec Ideal S65536x1024 .bf16 := fun i => outAt m c ⟨(i 0).val, (i 0).isLt⟩ ⟨(i 1).val, (i 1).isLt⟩

/-- The blocks of the result cover it. -/
theorem covers6 : (cfg0.win 6).Covers :=
  (cfg0.win 6).covers_of_index_surj rfl (by decide) fun β => by
    have h0 : (β 0).val < 256 := lt_of_lt_of_eq (β 0).isLt (by decide : (cfg0.win 6).nblk 0 = 256)
    have h1 : (β 1).val < 1 := lt_of_lt_of_eq (β 1).isLt (by decide : (cfg0.win 6).nblk 1 = 1)
    have hi := index6 ⟨(β 0).val, lt_of_lt_of_eq h0 Gen.N_0.symm⟩
    refine ⟨⟨(β 0).val, lt_of_lt_of_eq h0 Gen.N_0.symm⟩, fun a => ?_⟩
    match a with
    | ⟨0, _⟩ => exact hi.1
    | ⟨1, _⟩ => exact hi.2.trans (Nat.lt_one_iff.mp h1).symm

/-- The result ends at its array. -/
theorem out_arr : (dats m 0 c).arrAt 6 cfg0.N = outArr m c := by
  refine (dats m 0 c).arrAt_eq_of_covers 6 _ covers6 fun t hf y => ?_
  blk_simp
  rw [after0_6]
  idx_vars y
  refine (out_at m c t y0 y1).trans ?_
  refine Eq.trans (b := outArr m c (ix2 (row t y0) y1)) rfl (congrArg (outArr m c) ?_)
  unfold row
  blk_ext! [(index6 t).1, (index6 t).2]

end Cert.ConfIdeal.Con
-- ==== Proof.Row.lean ====
/- One row of attention with a sink, over the extended reals: the score vector of a query, its softmax with one more
   logit in the denominator, and the weighted sum of the values. Nothing here names a program. -/
module

public import Idealize.ShloMosaic.Lib.Pointwise

@[expose] public section

noncomputable section

namespace Att

open Idealize.ShloMosaic

/-- One head's row `x` rotated by the angles of cosines `cs` and sines `sn`: the first half is `x₁ cos − x₂ sin`, the
    second `x₂ cos + x₁ sin`. -/
def ropeAt (x : Fin 64 → EReal) (cs sn : Fin 32 → EReal) (d : Fin 64) : EReal :=
  if h : d.val < 32 then x d * cs ⟨d, h⟩ - x ⟨32 + d, by omega⟩ * sn ⟨d, h⟩
  else x d * cs ⟨d - 32, by omega⟩ + x ⟨d - 32, by omega⟩ * sn ⟨d - 32, by omega⟩

/-- The scores of one query against the keys `k`, those that may not be seen at `⊥`. -/
def scoreAt (q : Fin 64 → EReal) (k : Fin 256 → Fin 64 → EReal) (ok : Fin 256 → BitVec 1) (j : Fin 256) : EReal :=
  Scalar.select (ok j) ((∑ d, q d * k j d) * Ideal.ofBits .f32 0x3E000000#32) ⊥

/-- The largest of a row's scores and its sink. -/
def rowMax (sc : Fin 256 → EReal) (s : EReal) : EReal := max (Finset.univ.fold max ⊥ sc) s

/-- The softmax's denominator: the row's exponentials and the sink's. -/
def rowDen (sc : Fin 256 → EReal) (s : EReal) : EReal :=
  (∑ j, Ideal.exp (sc j - rowMax sc s)) + Ideal.exp (s - rowMax sc s)

/-- One output of a row: the probabilities against the values `v`. -/
def rowOut (sc : Fin 256 → EReal) (s : EReal) (v : Fin 256 → EReal) : EReal :=
  ∑ j, Ideal.div (Ideal.exp (sc j - rowMax sc s)) (rowDen sc s) * v j

theorem exp_nonneg (x : EReal) : 0 ≤ Ideal.exp x := by
  induction x using EReal.rec with
  | bot => simp
  | top => simp
  | coe r => simp only [Ideal.exp_coe]; exact_mod_cast (Real.exp_pos r).le

/-- The scale `1/8` is a nonnegative real. -/
theorem scale_real : ∃ r : ℝ, 0 ≤ r ∧ Ideal.ofBits .f32 0x3E000000#32 = (r : EReal) := by
  refine ⟨1 / 8, by norm_num, ?_⟩
  simp [Ideal.ofBits, Ideal.ieee, -EReal.coe_mul]; norm_num

/-- A nonnegative real factor goes into a sum, whatever infinities the terms hold. -/
theorem sum_mul_real {ι : Type*} (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (by exact_mod_cast hr) (EReal.coe_ne_top r), ih]

/-- The kernel scales its query, the reference its score: the same score. -/
theorem scoreAt_scaled (q : Fin 64 → EReal) (k : Fin 256 → Fin 64 → EReal) (ok : Fin 256 → BitVec 1) (j : Fin 256) :
    Scalar.select (ok j) (∑ d, q d * Ideal.ofBits .f32 0x3E000000#32 * k j d) ⊥ = scoreAt q k ok j := by
  obtain ⟨r, hr, e⟩ := scale_real
  rw [scoreAt, e, sum_mul_real _ _ hr]
  congr 2
  funext d
  rw [mul_right_comm]

/-- Scores depend on the keys only where they may be seen. -/
theorem scoreAt_congr {q q' : Fin 64 → EReal} {k k' : Fin 256 → Fin 64 → EReal} {ok ok' : Fin 256 → BitVec 1}
    (hq : q = q') (hok : ok = ok') (hk : ∀ j, ok j = 1#1 → k j = k' j) : scoreAt q k ok = scoreAt q' k' ok' := by
  subst hq hok
  funext j
  unfold scoreAt
  by_cases h : ok j = 1#1
  · rw [hk j h]
  · simp [Scalar.select, h]

theorem sum_halves (f : Fin 256 → EReal) :
    ∑ j, f j = (∑ i : Fin 128, f ⟨i, by omega⟩) + ∑ i : Fin 128, f ⟨128 + i, by omega⟩ := by
  rw [Fin.sum_univ_add (a := 128) (b := 128) f]
  rfl

theorem bot_mul_add_self (x : EReal) : ⊥ * x + ⊥ * x = ⊥ * x := by
  rcases lt_trichotomy x 0 with h | h | h
  · rw [EReal.bot_mul_of_neg h]; rfl
  · subst h; simp
  · rw [EReal.bot_mul_of_pos h]; rfl

/-- The first 128 keys masked: whether their values are those of the last 128 over again or zeros is all one. When the
    denominator is not zero their probabilities are; when it is, every probability is `⊥` and a sum of products by
    `⊥` is its own double. -/
theorem rowOut_first_masked (sc : Fin 256 → EReal) (s : EReal) (v v' : Fin 256 → EReal)
    (hs : ∀ i : Fin 128, sc ⟨i, by omega⟩ = ⊥)
    (hv : ∀ i : Fin 128, v ⟨i, by omega⟩ = v ⟨128 + i, by omega⟩)
    (hz : ∀ i : Fin 128, v' ⟨i, by omega⟩ = 0)
    (he : ∀ i : Fin 128, v' ⟨128 + i, by omega⟩ = v ⟨128 + i, by omega⟩) : rowOut sc s v = rowOut sc s v' := by
  unfold rowOut
  rw [sum_halves, sum_halves (fun j => _ * v' j)]
  by_cases hd : rowDen sc s = 0
  · have h0 : ∀ j, Ideal.exp (sc j - rowMax sc s) = 0 := by
      intro j
      have hsum : (∑ j, Ideal.exp (sc j - rowMax sc s)) = 0 :=
        le_antisymm (hd ▸ le_add_of_nonneg_right (exp_nonneg _)) (Finset.sum_nonneg fun _ _ => exp_nonneg _)
      exact (Finset.sum_eq_zero_iff_of_nonneg fun _ _ => exp_nonneg _).mp hsum j (Finset.mem_univ _)
    have hb : ∀ j, Ideal.div (Ideal.exp (sc j - rowMax sc s)) (rowDen sc s) = ⊥ := by
      intro j; rw [h0, hd]; simp [Ideal.div]
    simp only [hb, hv, hz, he, mul_zero, Finset.sum_const_zero, zero_add]
    rw [← Finset.sum_add_distrib]
    exact Finset.sum_congr rfl fun i _ => bot_mul_add_self _
  · have hp : ∀ i : Fin 128, Ideal.div (Ideal.exp (sc ⟨i, by omega⟩ - rowMax sc s)) (rowDen sc s) = 0 := by
      intro i; rw [hs i, EReal.bot_sub, Ideal.exp_bot]; simp [Ideal.div, hd]
    simp only [hp, he, zero_mul]

/-! ## The layer's attention at one token and head -/

/-- Token `t`'s query of head `n` in the projected features. -/
def qHead (h : Fin 65536 → Fin 9728 → EReal) (t : Fin 65536) (n : Fin 16) (d : Fin 64) : EReal :=
  h t ⟨8192 + (n * 64 + d), by omega⟩

/-- Token `t`'s key under query head `n`: four query heads share one. -/
def kHead (h : Fin 65536 → Fin 9728 → EReal) (t : Fin 65536) (n : Fin 16) (d : Fin 64) : EReal :=
  h t ⟨9216 + (n / 4 * 64 + d), by omega⟩

/-- Token `t`'s value under query head `n`. -/
def vHead (h : Fin 65536 → Fin 9728 → EReal) (t : Fin 65536) (n : Fin 16) (d : Fin 64) : EReal :=
  h t ⟨9472 + (n / 4 * 64 + d), by omega⟩

/-- The token of the `j`-th key that token `t` is offered: the 128 of the block before (the own block again where
    there is none before, all of them masked) and the 128 of its own block. -/
def keyTok (t : Fin 65536) (j : Fin 256) : Fin 65536 :=
  if hj : j.val < 128 then
    if t.val / 128 % 16 = 0 then ⟨t / 128 * 128 + j, by omega⟩ else ⟨t / 128 * 128 - 128 + j, by omega⟩
  else ⟨t / 128 * 128 + (j - 128), by omega⟩

/-- Whether the `r`-th query of block `s` may see the `j`-th key: not ahead of it, within 128 tokens, and not before
    the first token. -/
def okAt (s : Fin 16) (r : Fin 128) (j : Fin 256) : BitVec 1 :=
  IntOp.andi
    (IntOp.andi
      (IntOp.cmpi .sge (IntOp.subi (IntOp.addi (BitVec.ofNat 32 r) 128#32) (BitVec.ofNat 32 j)) 0#32)
      (IntOp.cmpi .slt (IntOp.subi (IntOp.addi (BitVec.ofNat 32 r) 128#32) (BitVec.ofNat 32 j)) 128#32))
    (IntOp.cmpi .sge (IntOp.addi (IntOp.subi (IntOp.muli (BitVec.ofNat 32 s) 128#32) 128#32) (BitVec.ofNat 32 j)) 0#32)

/-- In the first block none of the first 128 keys may be seen. -/
theorem okAt_first (r : Fin 128) (i : Fin 128) : okAt 0 r ⟨i, by omega⟩ = 0#1 := by
  have e : ∀ i : Fin 128, IntOp.cmpi .sge (IntOp.addi (IntOp.subi (IntOp.muli (BitVec.ofNat 32 (0 : Fin 16)) 128#32) 128#32)
      (BitVec.ofNat 32 i)) 0#32 = 0#1 := by decide
  unfold okAt
  rw [e i]
  simp [IntOp.andi]

/-- The block of a token and its place there. -/
def blkOf (t : Fin 65536) : Fin 16 := ⟨t / 128 % 16, by omega⟩
def rowOf (t : Fin 65536) : Fin 128 := ⟨t % 128, by omega⟩

/-- Lane `d` of head `n` of the attention's output at token `t`. -/
def attnAt (h : Fin 65536 → Fin 9728 → EReal) (cs sn : Fin 65536 → Fin 32 → EReal) (sk : Fin 16 → EReal)
    (t : Fin 65536) (n : Fin 16) (d : Fin 64) : EReal :=
  rowOut (scoreAt (ropeAt (qHead h t n) (cs t) (sn t))
      (fun j => ropeAt (kHead h (keyTok t j) n) (cs (keyTok t j)) (sn (keyTok t j))) (okAt (blkOf t) (rowOf t)))
    (sk n) (fun j => vHead h (keyTok t j) n d)

end Att
-- ==== Proof.Head.lean ====
/- One head of the kernel's attention at a grid point: the launch's sixteen heads are this one at sixteen offsets. -/
module

public import proofs.«01_k».proof.Proof.Gen.KernelIdeal.Value
public import proofs.«01_k».proof.Proof.Row
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.SL.Sem

section Stages

variable {F : FTy → Type} [FloatOps F]

/-- The masked scores of a head. -/
def headScores (q : FVec F S128x64 .bf16) (k : FVec F S256x64 .bf16) (ok : IVec S128x256 1) : FVec F S128x256 .f32 :=
  select ok (matmul dot_S128x64_S256x64_S128x256_1_1_0_0_n_n none q k (constant S128x256 .f32 0x00000000#32))
    (broadcast S128x256 (Scalar.ofBits .f32 0xFF800000#32 : F .f32))

/-- The largest score of each row, the sink among them. -/
def headMax (s : FVec F S128x256 .f32) (b : FVec F S1x1 .f32) : FVec F S128x1 .f32 :=
  maximumf (shapeCast S128x1 (multiReduction .maximumf [1] S128 s 0xFF800000#32 reduces_S128x256_S128 (.inl rfl) rfl)
    shapeCasts_S128_S128x1) (broadcastTo S128x1 b broadcasts_S1x1_S128x1)

/-- The exponentials of the scores over the largest. -/
def headExp (s : FVec F S128x256 .f32) (b : FVec F S1x1 .f32) : FVec F S128x256 .f32 :=
  exp (subf s (broadcastTo S128x256 (headMax s b) broadcasts_S128x1_S128x256))

/-- The probabilities. -/
def headProb (s : FVec F S128x256 .f32) (b : FVec F S1x1 .f32) : FVec F S128x256 .f32 :=
  divf (headExp s b) (broadcastTo S128x256
    (addf (shapeCast S128x1 (multiReduction .add [1] S128 (headExp s b) 0x00000000#32 reduces_S128x256_S128 (.inl rfl) rfl)
      shapeCasts_S128_S128x1) (exp (subf (broadcastTo S128x1 b broadcasts_S1x1_S128x1) (headMax s b))))
    broadcasts_S128x1_S128x256)

/-- The head's output from its probabilities. -/
def headOut (p : FVec F S128x256 .f32) (v : FVec F S256x64 .bf16) : FVec F S128x64 .f32 :=
  shapeCast S128x64 (matmul dot_S128x256_S256x64_S128x64_1_0_0_1_n_n none (truncf .bf16 p bitsLt_bf16_f32) v
    (constant S128x64 .f32 0x00000000#32)) shapeCasts_S128x64_S128x64

/-- One head, from its query, key and value columns, the mask and its sink. -/
def head (q : FVec F S128x64 .bf16) (k v : FVec F S256x64 .bf16) (ok : IVec S128x256 1) (b : Vec F S1x1 .f32) :
    FVec F S128x64 .f32 :=
  headOut (headProb (headScores q k ok) (shapeCast S1x1 b shapeCasts_S1x1_S1x1)) v

end Stages

theorem neg_inf : Ideal.ofBits .f32 0xFF800000#32 = ⊥ := by simp [Ideal.ofBits, Ideal.ieee]

theorem headScores_at (q : FVec Ideal S128x64 .bf16) (k : FVec Ideal S256x64 .bf16) (ok : IVec S128x256 1)
    (r : Fin 128) (j : Fin 256) : headScores q k ok (ix2 r j) =
      Scalar.select (ok (ix2 r j)) (∑ d : Fin 64, q (ix2 r d) * k (ix2 j d)) ⊥ := by
  pointwise [headScores]
  exact congrArg _ neg_inf

theorem headMax_at (s : FVec Ideal S128x256 .f32) (b : FVec Ideal S1x1 .f32) (r : Fin 128) :
    headMax s b (ix2 r 0) = Att.rowMax (fun j => s (ix2 r j)) (b (ix2 0 0)) := by
  pointwise [headMax, Att.rowMax]
  exact congrArg (fun z => max (Finset.univ.fold max z _) _) neg_inf

theorem headExp_at (s : FVec Ideal S128x256 .f32) (b : FVec Ideal S1x1 .f32) (r : Fin 128) (j : Fin 256) :
    headExp s b (ix2 r j) = Ideal.exp (s (ix2 r j) - Att.rowMax (fun j => s (ix2 r j)) (b (ix2 0 0))) := by
  have e := headMax_at s b r
  unfold headExp
  generalize headMax s b = M at e
  pointwise []
  rw [e]

theorem headProb_at (s : FVec Ideal S128x256 .f32) (b : FVec Ideal S1x1 .f32) (r : Fin 128) (j : Fin 256) :
    headProb s b (ix2 r j) =
      Ideal.div (Ideal.exp (s (ix2 r j) - Att.rowMax (fun j => s (ix2 r j)) (b (ix2 0 0))))
        (Att.rowDen (fun j => s (ix2 r j)) (b (ix2 0 0))) := by
  have e := headMax_at s b r
  have e' := headExp_at s b r
  unfold headProb
  generalize headMax s b = M at e
  generalize headExp s b = E at e'
  pointwise [Att.rowDen]
  simp only [e, e']

theorem headOut_at (p : FVec Ideal S128x256 .f32) (v : FVec Ideal S256x64 .bf16) (r : Fin 128) (d : Fin 64) :
    headOut p v (ix2 r d) = ∑ j : Fin 256, p (ix2 r j) * v (ix2 j d) := by
  pointwise [headOut]

/-- One head at a row and a lane: the row of attention. -/
theorem head_at (q : FVec Ideal S128x64 .bf16) (k v : FVec Ideal S256x64 .bf16) (ok : IVec S128x256 1)
    (b : Vec Ideal S1x1 .f32) (r : Fin 128) (d : Fin 64) : head q k v ok b (ix2 r d) =
      Att.rowOut (fun j => Scalar.select (ok (ix2 r j)) (∑ d : Fin 64, q (ix2 r d) * k (ix2 j d)) ⊥) (b (ix2 0 0))
        (fun j => v (ix2 j d)) := by
  have hb : shapeCast S1x1 b shapeCasts_S1x1_S1x1 (ix2 0 0) = b (ix2 0 0) := by pointwise []
  unfold head
  rw [headOut_at]
  simp only [headProb_at, headScores_at, hb]
  rfl

/-- A grid point's attention at a row, a head and a lane, from the point's rotated queries `Q`, its keys `K` and values
    `V` of two blocks, its mask and the sinks. -/
def blockAt (Q : FVec Ideal S128x1024 .bf16) (K V : FVec Ideal S256x256 .bf16) (ok : IVec S128x256 1)
    (S : FVec Ideal S1x128 .f32) (r : Fin 128) (n : Fin 16) (d : Fin 64) : EReal :=
  Att.rowOut (fun j => Scalar.select (ok (ix2 r j))
      (∑ d : Fin 64, Q (ix2 r ⟨n * 64 + d, by omega⟩) * K (ix2 j ⟨n / 4 * 64 + d, by omega⟩)) ⊥)
    (S (ix2 0 ⟨n, by omega⟩)) (fun j => V (ix2 j ⟨n / 4 * 64 + d, by omega⟩))

/-- The heads side by side. -/
def blockOut (Q : FVec Ideal S128x1024 .bf16) (K V : FVec Ideal S256x256 .bf16) (ok : IVec S128x256 1)
    (S : FVec Ideal S1x128 .f32) : FVec Ideal S128x1024 .f32 := fun i =>
  blockAt Q K V ok S ⟨(i 0).val, (i 0).isLt⟩ ⟨(i 1).val / 64, by have : (i 1).val < 1024 := (i 1).isLt; omega⟩
    ⟨(i 1).val % 64, by omega⟩

/-- The head at column offset `o = 64 n` is the block of `blockOut` there. -/
theorem head_block (Q : FVec Ideal S128x1024 .bf16) (K V : FVec Ideal S256x256 .bf16) (ok : IVec S128x256 1)
    (S : FVec Ideal S1x128 .f32) (n o o' : ℕ) (hq : S128x1024.Slices ![0, o] S128x64) (hk : S256x256.Slices ![0, o'] S256x64)
    (hs : ∀ a, ![0, n] a + ![1, 1] a ≤ S1x128.size a) (hi : ∀ a, ![0, o] a + ![128, 64] a ≤ S128x1024.size a)
    (hn : n < 16) (ho : o = n * 64) (ho' : o' = n / 4 * 64) (x : (Rect.unit (s := S128x1024) ![0, o] ![128, 64] hi).shape.Idx) :
    head (extractStridedSlice S128x64 ![0, o] Q hq) (extractStridedSlice S256x64 ![0, o'] K hk)
        (extractStridedSlice S256x64 ![0, o'] V hk) ok (View.ld S (Rect.unit (s := S1x128) ![0, n] ![1, 1] hs)) x =
      blockOut Q K V ok S ((Rect.unit (s := S128x1024) ![0, o] ![128, 64] hi).emb x) := by
  subst ho ho'
  idx_vars x
  generalize x0 = r
  generalize x1 = d
  have hn' : n / 4 < 4 := by omega
  have e1 : ∀ (r : Fin 128) (d : Fin 64), extractStridedSlice S128x64 ![0, n * 64] Q hq (ix2 r d) =
      Q (ix2 r ⟨n * 64 + d, by omega⟩) := fun r d => by pointwise []
  have e2 : ∀ (X : FVec Ideal S256x256 .bf16) (r : Fin 256) (d : Fin 64),
      extractStridedSlice S256x64 ![0, n / 4 * 64] X hk (ix2 r d) = X (ix2 r ⟨n / 4 * 64 + d, by omega⟩) :=
    fun X r d => by pointwise []
  have e3 : (View.ld (Val := Elt Ideal) (e' := .f32) S (Rect.unit (s := S1x128) ![0, n] ![1, 1] hs) : FVec Ideal S1x1 .f32) (ix2 0 0) =
      S (ix2 0 ⟨n, by omega⟩) := by
    refine congrArg S (funext fun a => Fin.ext ?_)
    match a with
    | 0 => rfl
    | 1 => rfl
  have e4 : (Rect.unit (s := S128x1024) ![0, n * 64] ![128, 64] hi).emb (ix2 r d) = ix2 r ⟨n * 64 + d, by omega⟩ := by
    funext a
    apply Fin.ext
    match a with
    | 0 => simp [Rect.emb, Rect.unit]
    | 1 => simp [Rect.emb, Rect.unit]
  rw [head_at, e4]
  simp only [e1, e2, e3]
  have c1 : (n * 64 + d.val) / 64 = n := by omega
  have c2 : (n * 64 + d.val) % 64 = d.val := by omega
  show _ = blockAt Q K V ok S r ⟨(n * 64 + d.val) / 64, _⟩ ⟨(n * 64 + d.val) % 64, _⟩
  simp only [c1, c2]
  rfl

/-- What the launch writes at a grid point: its projection of the sixteen heads. -/
theorem outs_eq (m : (ℓ : Loc nD τ sig) → Buf (Elt Ideal) ℓ) (c : Dev nD) (t : Fin cfg0.N) : outsAt0 m c t =
    k0_pay2 (blockOut (k0_pay3 (iblk m c 5 t) (iblk m c 6 t) (X0_0 m c t))
      (k0_pay4 (iblk m c 2 t) (iblk m c 1 t) (iblk m c 7 t) (iblk m c 5 t) (iblk m c 8 t) (iblk m c 6 t))
      (k0_pay5 (iblk m c 4 t) (iblk m c 3 t)) (k0_pay6 (BitVec.ofNat 32 (grid0.coords t 1))) (iblk m c 9 t))
      (iblk m c 10 t) := by
  unfold outsAt0; frame_open
  simp (disch := decide) only [↓ View.readCov_skip, ↓ View.readCov_cons_toLoadRect, ↓ View.readCov_fill]
  frame_out
  refine congrArg (fun o => k0_pay2 o _) ?_
  rw [View.readCov_eq_canon']
  funext y
  generalize hB : (Rect.unit (s := S128x1024) ![0, 0] ![128, 1024] inb_S128x1024_S128x1024_0_0).toLoadRect.idx y = z
  rw [← List.append_nil (_ :: _)]
  rw [View.canon_append_of_piecesOf (blockOut (k0_pay3 (iblk m c 5 t) (iblk m c 6 t) (X0_0 m c t))
      (k0_pay4 (iblk m c 2 t) (iblk m c 1 t) (iblk m c 7 t) (iblk m c 5 t) (iblk m c 8 t) (iblk m c 6 t))
      (k0_pay5 (iblk m c 4 t) (iblk m c 3 t)) (k0_pay6 (BitVec.ofNat 32 (grid0.coords t 1))) (iblk m c 9 t)) [] _ ?_ z ?_]
  · refine congrArg _ (hB.symm.trans (funext fun a => Fin.ext ?_))
    match a with
    | 0 => simp [LoadRect.idx, Rect.unit]
    | 1 => simp [LoadRect.idx, Rect.unit]
  · repeat' (first | exact trivial | refine ⟨head_block _ _ _ _ _ _ _ _ (by decide) (by decide) (by decide) (by decide) (by decide) rfl rfl, ?_⟩)
  · exact View.cover_of_tiledL _ ![128, 64] (by rfl) z

end Cert.KernelIdeal.Att
-- ==== Proof.Pay.lean ====
/- The kernel's payloads at an index: rotated queries and keys from tables laid twice along a row of 128 lanes, the mask,
   and the projection. -/
module

public import proofs.«01_k».proof.Proof.Gen.KernelIdeal.Value
public import proofs.«01_k».proof.Proof.Row
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.SL.Sem

/-- `j`'s place in its head of 64 lanes, compared with 32 the way the kernel does. -/
theorem lane_lt : ∀ j : Fin 1024,
    IntOp.cmpi CmpIPredicate.slt
      (Scalar.select
        (IntOp.andi
          (IntOp.xori
            (IntOp.cmpi CmpIPredicate.slt
              (IntOp.remsi ArithUnit.vector (BitVec.ofNat 32 j.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 j.val)
              (Scalar.select (Scalar.cmpi CmpIPredicate.eq 64#32 0#32) 1#32 64#32))
            0#32))
        (IntOp.addi
          (IntOp.remsi ArithUnit.vector (BitVec.ofNat 32 j.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 j.val)
          (Scalar.select (Scalar.cmpi CmpIPredicate.eq 64#32 0#32) 1#32 64#32)))
      32#32 = if j.val % 64 < 32 then 1#1 else 0#1 := by decide +kernel

/-- The cosine of a lane, as a function of the lane's number. -/
def cosLane (cs : Fin 32 → EReal) (a : ℕ) : EReal := cs ⟨a % 32, by omega⟩

/-- The signed sine of a lane, as a function of the lane's number. -/
def sinLane (sn : Fin 32 → EReal) (a : ℕ) : EReal := if a % 64 < 32 then - sn ⟨a % 32, by omega⟩ else sn ⟨a % 32, by omega⟩

theorem cosLane_128 (cs : Fin 32 → EReal) (a : ℕ) : cosLane cs (a + 128) = cosLane cs a := by
  unfold cosLane
  exact congrArg cs (Fin.ext (by show (a + 128) % 32 = a % 32; omega))

theorem sinLane_128 (sn : Fin 32 → EReal) (a : ℕ) : sinLane sn (a + 128) = sinLane sn a := by
  unfold sinLane
  simp only [show (a + 128) % 32 = a % 32 by omega, show (a + 128) % 64 = a % 64 by omega]

/-- The rotation as the kernel writes it, over a whole row `x` of `N` lanes: the cosine against the row, the signed sine
    against the row with each head's halves exchanged. -/
def turned (N : ℕ) (x : ℕ → EReal) (cs sn : Fin 32 → EReal) (j : ℕ) : EReal :=
  x j * cosLane cs j +
    Scalar.select (if j % 64 < 32 then 1#1 else 0#1) (x ((j + 32) % N)) (x ((j + N - 32) % N)) * sinLane sn j

theorem turned_eq (N : ℕ) (x : ℕ → EReal) (cs sn : Fin 32 → EReal) (n : ℕ) (d : Fin 64) (hN : n * 64 + 64 ≤ N) :
    turned N x cs sn (n * 64 + d) = Att.ropeAt (fun d => x (n * 64 + d)) cs sn d := by
  have h1 : (n * 64 + d.val) % 64 = d.val := by omega
  have h2 : (n * 64 + d.val) % 32 = d.val % 32 := by omega
  unfold turned cosLane sinLane Att.ropeAt
  simp only [h1, h2]
  by_cases hd : d.val < 32
  · have e : (⟨d.val % 32, by omega⟩ : Fin 32) = ⟨d, hd⟩ := Fin.ext (by show d.val % 32 = d.val; omega)
    have h3 : (n * 64 + d.val + 32) % N = n * 64 + (32 + d.val) := by rw [Nat.mod_eq_of_lt (by omega)]; omega
    rw [dif_pos hd, e, if_pos hd, if_pos hd, h3]
    simp [Scalar.select, sub_eq_add_neg]
  · have e : (⟨d.val % 32, by omega⟩ : Fin 32) = ⟨d - 32, by omega⟩ := Fin.ext (by show d.val % 32 = d.val - 32; omega)
    have h3 : (n * 64 + d.val + N - 32) % N = n * 64 + (d.val - 32) := by
      rw [show n * 64 + d.val + N - 32 = n * 64 + (d.val - 32) + N by omega, Nat.add_mod_right, Nat.mod_eq_of_lt (by omega)]
    rw [dif_neg hd, e, if_neg hd, if_neg hd, h3]
    simp [Scalar.select]

/-- Eight copies of a 128-lane row whose lane `d` depends on `d` modulo 64 alone. -/
theorem tile8 (f : ℕ → EReal) (hf : ∀ a, f (a + 128) = f a) (j : Fin 1024) :
    (if j.val < 128 then f j.val
      else if j.val - 128 < 128 then f (j.val - 128)
      else if j.val - 128 - 128 < 128 then f (j.val - 128 - 128)
      else if j.val - 128 - 128 - 128 < 128 then f (j.val - 128 - 128 - 128)
      else if j.val - 128 - 128 - 128 - 128 < 128 then f (j.val - 128 - 128 - 128 - 128)
      else if j.val - 128 - 128 - 128 - 128 - 128 < 128 then f (j.val - 128 - 128 - 128 - 128 - 128)
      else if j.val - 128 - 128 - 128 - 128 - 128 - 128 < 128 then f (j.val - 128 - 128 - 128 - 128 - 128 - 128)
      else f (j.val - 128 - 128 - 128 - 128 - 128 - 128 - 128)) = f j.val := by
  have down : ∀ a, 128 ≤ a → f (a - 128) = f a := fun a h => by rw [← hf (a - 128), Nat.sub_add_cancel h]
  split_ifs <;> first | rfl | (repeat rw [down _ (by omega)])

/-- The scaled rotated queries, in a row of 1024 lanes. -/
theorem pay3_row (C S : Vec Ideal S128x128 .f32) (X : Vec Ideal S128x1024 .bf16) (x : ℕ → EReal) (cs sn : Fin 32 → EReal)
    (r : Fin 128) (hX : ∀ j : Fin 1024, (X : FVec Ideal S128x1024 .bf16) (ix2 r j) = x j)
    (hC : ∀ d : Fin 128, (C : FVec Ideal S128x128 .f32) (ix2 r d) = cosLane cs d)
    (hS : ∀ d : Fin 128, (S : FVec Ideal S128x128 .f32) (ix2 r d) = sinLane sn d) (J : Fin 1024) :
    k0_pay3 C S X (ix2 r J) = turned 1024 x cs sn J * Ideal.ofBits .f32 0x3E000000#32 := by
  have hl := lane_lt J
  have hc := tile8 (cosLane cs) (cosLane_128 cs) J
  have hs := tile8 (sinLane sn) (sinLane_128 sn) J
  unfold turned
  pointwise [k0_pay3]
  simp only [hC, hS, hX, dite_eq_ite, hl, hc, hs, show ∀ a : ℕ, a + 1024 - 992 = a + 32 by omega]

theorem pay3_at (C S : Vec Ideal S128x128 .f32) (X : Vec Ideal S128x1024 .bf16) (x : ℕ → EReal) (cs sn : Fin 32 → EReal)
    (r : Fin 128) (hX : ∀ j : Fin 1024, (X : FVec Ideal S128x1024 .bf16) (ix2 r j) = x j)
    (hC : ∀ d : Fin 128, (C : FVec Ideal S128x128 .f32) (ix2 r d) = cosLane cs d)
    (hS : ∀ d : Fin 128, (S : FVec Ideal S128x128 .f32) (ix2 r d) = sinLane sn d) (n : Fin 16) (d : Fin 64) :
    k0_pay3 C S X (ix2 r ⟨n * 64 + d, by omega⟩) =
      Att.ropeAt (fun d => x (n * 64 + d)) cs sn d * Ideal.ofBits .f32 0x3E000000#32 := by
  rw [pay3_row C S X x cs sn r hX hC hS, ← turned_eq 1024 x cs sn n d (by omega)]

/-- The rotated keys, in a row of 256 lanes: row `r` of the two blocks one over the other. -/
theorem pay4_row (X Y : Vec Ideal S128x256 .bf16) (C C' S S' : Vec Ideal S128x128 .f32) (x : ℕ → EReal)
    (cs sn : Fin 32 → EReal) (r : Fin 256)
    (hX : ∀ j : Fin 256, (if h : r.val < 128 then (X : FVec Ideal S128x256 .bf16) (ix2 ⟨r, h⟩ j)
      else (Y : FVec Ideal S128x256 .bf16) (ix2 ⟨r - 128, by omega⟩ j)) = x j)
    (hC : ∀ d : Fin 128, (if h : r.val < 128 then (C : FVec Ideal S128x128 .f32) (ix2 ⟨r, h⟩ d)
      else (C' : FVec Ideal S128x128 .f32) (ix2 ⟨r - 128, by omega⟩ d)) = cosLane cs d)
    (hS : ∀ d : Fin 128, (if h : r.val < 128 then (S : FVec Ideal S128x128 .f32) (ix2 ⟨r, h⟩ d)
      else (S' : FVec Ideal S128x128 .f32) (ix2 ⟨r - 128, by omega⟩ d)) = sinLane sn d) (J : Fin 256) :
    k0_pay4 X Y C C' S S' (ix2 r J) = turned 256 x cs sn J := by
  have hl := lane_lt ⟨J, by omega⟩
  have two : ∀ f : ℕ → EReal, (∀ a, f (a + 128) = f a) → (if J.val < 128 then f J.val else f (J.val - 128)) = f J.val := by
    intro f hf
    split_ifs
    · rfl
    · rw [← hf (J.val - 128), Nat.sub_add_cancel (by omega)]
  have hc := two (cosLane cs) (cosLane_128 cs)
  have hs := two (sinLane sn) (sinLane_128 sn)
  unfold turned
  pointwise [k0_pay4]
  by_cases hr : r.val < 128
  · simp only [hr, dite_true] at hX hC hS ⊢
    simp only [hC, hS, hX, dite_eq_ite, hl, hc, hs, show ∀ a : ℕ, a + 256 - 224 = a + 32 by omega]
  · simp only [hr, dite_false] at hX hC hS ⊢
    simp only [hC, hS, hX, dite_eq_ite, hl, hc, hs, show ∀ a : ℕ, a + 256 - 224 = a + 32 by omega]

theorem pay4_at (X Y : Vec Ideal S128x256 .bf16) (C C' S S' : Vec Ideal S128x128 .f32) (x : ℕ → EReal)
    (cs sn : Fin 32 → EReal) (r : Fin 256)
    (hX : ∀ j : Fin 256, (if h : r.val < 128 then (X : FVec Ideal S128x256 .bf16) (ix2 ⟨r, h⟩ j)
      else (Y : FVec Ideal S128x256 .bf16) (ix2 ⟨r - 128, by omega⟩ j)) = x j)
    (hC : ∀ d : Fin 128, (if h : r.val < 128 then (C : FVec Ideal S128x128 .f32) (ix2 ⟨r, h⟩ d)
      else (C' : FVec Ideal S128x128 .f32) (ix2 ⟨r - 128, by omega⟩ d)) = cosLane cs d)
    (hS : ∀ d : Fin 128, (if h : r.val < 128 then (S : FVec Ideal S128x128 .f32) (ix2 ⟨r, h⟩ d)
      else (S' : FVec Ideal S128x128 .f32) (ix2 ⟨r - 128, by omega⟩ d)) = sinLane sn d) (n : Fin 4) (d : Fin 64) :
    k0_pay4 X Y C C' S S' (ix2 r ⟨n * 64 + d, by omega⟩) = Att.ropeAt (fun d => x (n * 64 + d)) cs sn d := by
  rw [pay4_row X Y C C' S S' x cs sn r hX hC hS, ← turned_eq 256 x cs sn n d (by omega)]

theorem pay5_at (X Y : Vec Ideal S128x256 .bf16) (r j : Fin 256) : k0_pay5 X Y (ix2 r j) =
    if h : r.val < 128 then (X : FVec Ideal S128x256 .bf16) (ix2 ⟨r, h⟩ j)
      else (Y : FVec Ideal S128x256 .bf16) (ix2 ⟨r - 128, by omega⟩ j) := by
  pointwise [k0_pay5]

/-- The mask: the kernel counts from the block before, the reference from its own. -/
theorem pay6_at (s : Fin 16) (r : Fin 128) (j : Fin 256) : k0_pay6 (BitVec.ofNat 32 s) (ix2 r j) = Att.okAt s r j := by
  have e : ∀ s : Fin 16, Scalar.muli (Scalar.subi (BitVec.ofNat 32 s) 1#32) 128#32 =
      IntOp.subi (IntOp.muli (BitVec.ofNat 32 s) 128#32) 128#32 := by decide
  pointwise [k0_pay6, Att.okAt]
  rw [e s]

theorem pay2_at (X : Vec Ideal S128x1024 .f32) (W : Vec Ideal S1024x1024 .bf16) (r : Fin 128) (j : Fin 1024) :
    k0_pay2 X W (ix2 r j) = ∑ x : Fin 1024, (X : FVec Ideal S128x1024 .f32) (ix2 r x) * (W : FVec Ideal S1024x1024 .bf16) (ix2 x j) := by
  pointwise [k0_pay2]

end Cert.KernelIdeal.Att
-- ==== Proof.Windows.lean ====
/- What each window of the attention's launch holds at a grid point, in terms of the program's arguments. -/
module

public import proofs.«01_k».proof.Proof.Gen.KernelIdeal.Value
public import proofs.«01_k».proof.Proof.Pay
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The program's arguments as functions of their coordinates. -/
def hArg (u : Fin 65536) (j : Fin 9728) : EReal := (m ((c.tc : Thread nD τ).loc main_arg0) : FVec Ideal S65536x9728 .bf16) (ix2 u j)
def csArg (u : Fin 65536) (d : Fin 32) : EReal := (m ((c.tc : Thread nD τ).loc main_arg1) : FVec Ideal S65536x32 .f32) (ix2 u d)
def snArg (u : Fin 65536) (d : Fin 32) : EReal := (m ((c.tc : Thread nD τ).loc main_arg2) : FVec Ideal S65536x32 .f32) (ix2 u d)
def skArg (n : Fin 16) : EReal := (m ((c.tc : Thread nD τ).loc main_arg3) : FVec Ideal S16 .f32) (ix1 n)
def wArg (x y : Fin 1024) : EReal := (m ((c.tc : Thread nD τ).loc main_arg4) : FVec Ideal S1024x1024 .f32) (ix2 x y)

/-! ## The arrays the launch reads, as the host operations before it leave them -/

theorem V_h : V m c main_arg0 = m ((c.tc : Thread nD τ).loc main_arg0) := by
  unfold V
  after_reads_simp

theorem V_cos (u : Fin 65536) (d : Fin 128) : (V m c main_v3 : FVec Ideal S65536x128 .f32) (ix2 u d) =
    cosLane (csArg m c u) d := by
  unfold V
  after_reads_at
  unfold cosLane csArg
  split
  · exact congrArg (m ((c.tc : Thread nD τ).loc main_arg1) : FVec Ideal S65536x32 .f32) (congrArg (ix2 u) (Fin.ext (by show d.val % 64 = d.val % 32; omega)))
  · exact congrArg (m ((c.tc : Thread nD τ).loc main_arg1) : FVec Ideal S65536x32 .f32) (congrArg (ix2 u) (Fin.ext (by show d.val % 64 - 32 = d.val % 32; omega)))

theorem V_sin (u : Fin 65536) (d : Fin 128) : (V m c main_v8 : FVec Ideal S65536x128 .f32) (ix2 u d) =
    sinLane (snArg m c u) d := by
  unfold V
  after_reads_at
  after_reads_at
  unfold sinLane snArg
  by_cases hd : d.val % 64 < 32
  · rw [dif_pos hd, if_pos hd]
    exact congrArg (Neg.neg : EReal → EReal) (congrArg (m ((c.tc : Thread nD τ).loc main_arg2) : FVec Ideal S65536x32 .f32) (congrArg (ix2 u) (Fin.ext (by show d.val % 64 = d.val % 32; omega))))
  · rw [dif_neg hd, if_neg hd]
    exact congrArg (m ((c.tc : Thread nD τ).loc main_arg2) : FVec Ideal S65536x32 .f32) (congrArg (ix2 u) (Fin.ext (by show d.val % 64 - 32 = d.val % 32; omega)))

theorem V_sk (n : Fin 16) : (V m c main_v10 : FVec Ideal S1x128 .f32) (ix2 0 ⟨n, by omega⟩) = skArg m c n := by
  unfold V
  after_reads_at
  unfold skArg
  try rfl

theorem V_w (x y : Fin 1024) : (V m c main_v11 : FVec Ideal S1024x1024 .bf16) (ix2 x y) = wArg m c x y := by
  unfold V
  after_reads_at
  unfold wArg
  try rfl

/-! ## The windows' blocks -/

/-- The block a point's second set of windows reads: the one before, the own one where there is none. -/
def prevBlk (t : ℕ) : ℕ := if t % 16 = 0 then t else t - 1

theorem coord_blk : ∀ t : Fin cfg0.N, (grid0.coords t 1).val = t.val % 16 :=
  (by decide +kernel : ∀ t : Fin grid0.N, (grid0.coords t 1).val = t.val % 16)
theorem index0 : ∀ t : Fin cfg0.N, win0_0.index t 0 = t.val ∧ win0_0.index t 1 = 8 :=
  (by decide +kernel : ∀ t : Fin grid0.N, win0_0.index t 0 = t.val ∧ win0_0.index t 1 = 8)
theorem index1 : ∀ t : Fin cfg0.N, win0_1.index t 0 = t.val ∧ win0_1.index t 1 = 36 :=
  (by decide +kernel : ∀ t : Fin grid0.N, win0_1.index t 0 = t.val ∧ win0_1.index t 1 = 36)
theorem index2 : ∀ t : Fin cfg0.N, win0_2.index t 0 = prevBlk t.val ∧ win0_2.index t 1 = 36 :=
  (by decide +kernel : ∀ t : Fin grid0.N, win0_2.index t 0 = prevBlk t.val ∧ win0_2.index t 1 = 36)
theorem index3 : ∀ t : Fin cfg0.N, win0_3.index t 0 = t.val ∧ win0_3.index t 1 = 37 :=
  (by decide +kernel : ∀ t : Fin grid0.N, win0_3.index t 0 = t.val ∧ win0_3.index t 1 = 37)
theorem index4 : ∀ t : Fin cfg0.N, win0_4.index t 0 = prevBlk t.val ∧ win0_4.index t 1 = 37 :=
  (by decide +kernel : ∀ t : Fin grid0.N, win0_4.index t 0 = prevBlk t.val ∧ win0_4.index t 1 = 37)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = prevBlk t.val ∧ win0_7.index t 1 = 0 :=
  (by decide +kernel : ∀ t : Fin grid0.N, win0_7.index t 0 = prevBlk t.val ∧ win0_7.index t 1 = 0)
theorem index8 : ∀ t : Fin cfg0.N, win0_8.index t 0 = prevBlk t.val ∧ win0_8.index t 1 = 0 :=
  (by decide +kernel : ∀ t : Fin grid0.N, win0_8.index t 0 = prevBlk t.val ∧ win0_8.index t 1 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)

/-- Row `r` of block `b`, as a token. -/
def rowTok (b : ℕ) (hb : b < 512) (r : Fin 128) : Fin 65536 := ⟨b * 128 + r, by omega⟩

theorem pt_lt (t : Fin cfg0.N) : t.val < 512 := lt_of_lt_of_eq t.isLt Gen.N_0
theorem prev_lt (t : Fin cfg0.N) : prevBlk t.val < 512 := by have := pt_lt t; unfold prevBlk; split <;> omega

theorem blk1 (r : Fin 128) (j : Fin 256) : (iblk m c 1 t : FVec Ideal S128x256 .bf16) (ix2 r j) =
    hArg m c (rowTok t (pt_lt t) r) ⟨9216 + j, by omega⟩ := by
  unfold hArg rowTok
  blk_simp [iblk]
  rw [V_h]
  blk_ext! [(index1 t).1, (index1 t).2]

theorem blk2 (r : Fin 128) (j : Fin 256) : (iblk m c 2 t : FVec Ideal S128x256 .bf16) (ix2 r j) =
    hArg m c (rowTok (prevBlk t) (prev_lt t) r) ⟨9216 + j, by omega⟩ := by
  unfold hArg rowTok
  blk_simp [iblk]
  rw [V_h]
  blk_ext! [(index2 t).1, (index2 t).2]

theorem blk3 (r : Fin 128) (j : Fin 256) : (iblk m c 3 t : FVec Ideal S128x256 .bf16) (ix2 r j) =
    hArg m c (rowTok t (pt_lt t) r) ⟨9472 + j, by omega⟩ := by
  unfold hArg rowTok
  blk_simp [iblk]
  rw [V_h]
  blk_ext! [(index3 t).1, (index3 t).2]

theorem blk4 (r : Fin 128) (j : Fin 256) : (iblk m c 4 t : FVec Ideal S128x256 .bf16) (ix2 r j) =
    hArg m c (rowTok (prevBlk t) (prev_lt t) r) ⟨9472 + j, by omega⟩ := by
  unfold hArg rowTok
  blk_simp [iblk]
  rw [V_h]
  blk_ext! [(index4 t).1, (index4 t).2]

theorem blk5 (r : Fin 128) (d : Fin 128) : (iblk m c 5 t : FVec Ideal S128x128 .f32) (ix2 r d) =
    cosLane (csArg m c (rowTok t (pt_lt t) r)) d := by
  rw [← V_cos]
  unfold rowTok
  blk_simp [iblk]
  blk_ext! [(index5 t).1, (index5 t).2]

theorem blk6 (r : Fin 128) (d : Fin 128) : (iblk m c 6 t : FVec Ideal S128x128 .f32) (ix2 r d) =
    sinLane (snArg m c (rowTok t (pt_lt t) r)) d := by
  rw [← V_sin]
  unfold rowTok
  blk_simp [iblk]
  blk_ext! [(index6 t).1, (index6 t).2]

theorem blk7 (r : Fin 128) (d : Fin 128) : (iblk m c 7 t : FVec Ideal S128x128 .f32) (ix2 r d) =
    cosLane (csArg m c (rowTok (prevBlk t) (prev_lt t) r)) d := by
  rw [← V_cos]
  unfold rowTok
  blk_simp [iblk]
  blk_ext! [(index7 t).1, (index7 t).2]

theorem blk8 (r : Fin 128) (d : Fin 128) : (iblk m c 8 t : FVec Ideal S128x128 .f32) (ix2 r d) =
    sinLane (snArg m c (rowTok (prevBlk t) (prev_lt t) r)) d := by
  rw [← V_sin]
  unfold rowTok
  blk_simp [iblk]
  blk_ext! [(index8 t).1, (index8 t).2]

theorem blk9 (n : Fin 16) : (iblk m c 9 t : FVec Ideal S1x128 .f32) (ix2 0 ⟨n, by omega⟩) = skArg m c n := by
  rw [← V_sk]
  blk_simp [iblk]
  blk_ext! [(index9 t).1, (index9 t).2]

theorem blk10 (x y : Fin 1024) : (iblk m c 10 t : FVec Ideal S1024x1024 .bf16) (ix2 x y) = wArg m c x y := by
  rw [← V_w]
  blk_simp [iblk]
  blk_ext! [(index10 t).1, (index10 t).2]

theorem blk0 (r : Fin 128) (j : Fin 1024) : (X0_0 m c t : FVec Ideal S128x1024 .bf16) (ix2 r j) =
    hArg m c (rowTok t (pt_lt t) r) ⟨8192 + j, by omega⟩ := by
  have hm := moved0_0 t (ix2 r j)
  unfold X0_0 Pipeline.Window.fill
  rw [dif_pos hm]
  unfold hArg rowTok
  blk_simp [iblk]
  rw [V_h]
  blk_ext! [(index0 t).1, (index0 t).2]

end Cert.KernelIdeal.Att
-- ==== Proof.Point.lean ====
/- What the attention's launch writes: at every grid point the attention of its 128 tokens against the projection, and
   over the grid the whole array. -/
module

public import proofs.«01_k».proof.Proof.Gen.KernelIdeal.Value
public import proofs.«01_k».proof.Proof.Head
public import proofs.«01_k».proof.Proof.Windows
public import Idealize.ShloMosaic.Lib.Pipeline.Covers
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The token of the point's key row `j`: rows below 128 are the block before's. -/
def ptKey (j : Fin 256) : Fin 65536 :=
  if h : j.val < 128 then rowTok (prevBlk t) (prev_lt t) ⟨j, h⟩ else rowTok t (pt_lt t) ⟨j - 128, by omega⟩

theorem ptKey_eq (r : Fin 128) (j : Fin 256) : Att.keyTok (rowTok t (pt_lt t) r) j = ptKey t j := by
  have e : (t.val * 128 + r.val) / 128 = t.val := by omega
  unfold Att.keyTok ptKey rowTok prevBlk
  simp only [e]
  split_ifs
  · rfl
  · refine Fin.ext ?_
    show t.val * 128 - 128 + j.val = (t.val - 1) * 128 + j.val
    omega
  · rfl

/-- A key row of the two blocks, in terms of its token. -/
theorem key_row {β : Type} (f : Fin 65536 → β) (j : Fin 256) (a : (h : j.val < 128) → β) (b : ¬ j.val < 128 → β)
    (ha : ∀ h, a h = f (rowTok (prevBlk t) (prev_lt t) ⟨j, h⟩)) (hb : ∀ h, b h = f (rowTok t (pt_lt t) ⟨j - 128, by omega⟩)) :
    (if h : j.val < 128 then a h else b h) = f (ptKey t j) := by
  unfold ptKey
  split
  · exact ha _
  · exact hb _

/-- A row of `N` lanes of the input from column `o` on, as a function of the lane's number. -/
def lanes (o : ℕ) (u : Fin 65536) (a : ℕ) : EReal := if h : o + a < 9728 then hArg m c u ⟨o + a, h⟩ else 0

theorem lanes_eq (o : ℕ) (u : Fin 65536) (a : ℕ) (h : o + a < 9728) : lanes m c o u a = hArg m c u ⟨o + a, h⟩ := dif_pos h

/-- The queries of a point. -/
theorem q_at (r : Fin 128) (n : Fin 16) (d : Fin 64) :
    k0_pay3 (iblk m c 5 t) (iblk m c 6 t) (X0_0 m c t) (ix2 r ⟨n * 64 + d, by omega⟩) =
      Att.ropeAt (Att.qHead (hArg m c) (rowTok t (pt_lt t) r) n) (csArg m c (rowTok t (pt_lt t) r)) (snArg m c (rowTok t (pt_lt t) r)) d *
        Ideal.ofBits .f32 0x3E000000#32 := by
  rw [pay3_at _ _ _ (lanes m c 8192 (rowTok t (pt_lt t) r)) _ _ r (fun j => by rw [blk0, lanes_eq]) (blk5 m c t r) (blk6 m c t r)]
  refine congrArg (fun f => Att.ropeAt f _ _ d * _) (funext fun d => ?_)
  rw [lanes_eq _ _ _ _ _ (by omega)]
  rfl

/-- The keys of a point. -/
theorem k_at (j : Fin 256) (n : Fin 16) (d : Fin 64) :
    k0_pay4 (iblk m c 2 t) (iblk m c 1 t) (iblk m c 7 t) (iblk m c 5 t) (iblk m c 8 t) (iblk m c 6 t)
        (ix2 j ⟨n / 4 * 64 + d, by omega⟩) =
      Att.ropeAt (Att.kHead (hArg m c) (ptKey t j) n) (csArg m c (ptKey t j)) (snArg m c (ptKey t j)) d := by
  rw [pay4_at _ _ _ _ _ _ (lanes m c 9216 (ptKey t j)) (csArg m c (ptKey t j)) (snArg m c (ptKey t j)) j ?_ ?_ ?_ ⟨n / 4, by omega⟩ d]
  · refine congrArg (fun f => Att.ropeAt f _ _ d) (funext fun d => ?_)
    rw [lanes_eq _ _ _ _ _ (by show 9216 + (n.val / 4 * 64 + d.val) < 9728; omega)]
    rfl
  · intro a
    exact key_row t (fun u => lanes m c 9216 u a) j _ _ (fun h => by rw [blk2, lanes_eq]) (fun h => by rw [blk1, lanes_eq])
  · intro a
    exact key_row t (fun u => cosLane (csArg m c u) a) j _ _ (fun h => blk7 m c t _ a) (fun h => blk5 m c t _ a)
  · intro a
    exact key_row t (fun u => sinLane (snArg m c u) a) j _ _ (fun h => blk8 m c t _ a) (fun h => blk6 m c t _ a)

/-- The values of a point. -/
theorem v_at (j : Fin 256) (n : Fin 16) (d : Fin 64) :
    k0_pay5 (iblk m c 4 t) (iblk m c 3 t) (ix2 j ⟨n / 4 * 64 + d, by omega⟩) = Att.vHead (hArg m c) (ptKey t j) n d := by
  rw [pay5_at]
  exact key_row t (fun u => Att.vHead (hArg m c) u n d) j _ _ (fun h => blk4 m c t _ _) (fun h => blk3 m c t _ _)

/-- The attention's lane `d` of head `n` at row `r` of a point. -/
theorem attn_pt (r : Fin 128) (n : Fin 16) (d : Fin 64) :
    blockAt (k0_pay3 (iblk m c 5 t) (iblk m c 6 t) (X0_0 m c t))
        (k0_pay4 (iblk m c 2 t) (iblk m c 1 t) (iblk m c 7 t) (iblk m c 5 t) (iblk m c 8 t) (iblk m c 6 t))
        (k0_pay5 (iblk m c 4 t) (iblk m c 3 t)) (k0_pay6 (BitVec.ofNat 32 (grid0.coords t 1))) (iblk m c 9 t) r n d =
      Att.attnAt (hArg m c) (csArg m c) (snArg m c) (skArg m c) (rowTok t (pt_lt t) r) n d := by
  have hs : (grid0.coords t 1).val = (Att.blkOf (rowTok t (pt_lt t) r)).val := by
    rw [coord_blk]
    show t.val % 16 = (t.val * 128 + r.val) / 128 % 16
    omega
  have hr : r = Att.rowOf (rowTok t (pt_lt t) r) := Fin.ext (by show r.val = (t.val * 128 + r.val) % 128; omega)
  unfold blockAt Att.attnAt
  simp only [q_at, k_at, v_at, ptKey_eq, blk9]
  refine congrArg (fun f => Att.rowOut f _ _) (funext fun j => ?_)
  rw [← Att.scoreAt_scaled, hs, pay6_at]
  conv_rhs => rw [← hr]

/-- The result, of the program's arguments. -/
def G : FVec Ideal S65536x1024 .bf16 := fun i =>
  ∑ x : Fin 1024, Att.attnAt (hArg m c) (csArg m c) (snArg m c) (skArg m c) ⟨(i 0).val, (i 0).isLt⟩
    ⟨x / 64, by omega⟩ ⟨x % 64, by omega⟩ * wArg m c x ⟨(i 1).val, (i 1).isLt⟩

/-- What a point writes. -/
theorem out_at (r : Fin 128) (y : Fin 1024) :
    (outsAt0 m c t : FVec Ideal S128x1024 .bf16) (ix2 r y) = G m c (ix2 (rowTok t (pt_lt t) r) y) := by
  rw [outs_eq, pay2_at]
  refine Finset.sum_congr rfl fun x _ => ?_
  rw [blk10]
  exact congrArg (· * wArg m c x y) (attn_pt m c t r ⟨x / 64, by omega⟩ ⟨x % 64, by omega⟩)

theorem index11 : ∀ t : Fin cfg0.N, win0_11.index t 0 = t.val ∧ win0_11.index t 1 = 0 :=
  (by decide +kernel : ∀ t : Fin grid0.N, win0_11.index t 0 = t.val ∧ win0_11.index t 1 = 0)

/-- The blocks written cover the array. -/
theorem covers11 : (cfg0.win 11).Covers :=
  (cfg0.win 11).covers_of_indexMap_surj rfl (by decide) fun β => by
    have h0 : (β 0).val < 512 := lt_of_lt_of_eq (β 0).isLt (by decide : (cfg0.win 11).nblk 0 = 512)
    have h1 : (β 1).val < 1 := lt_of_lt_of_eq (β 1).isLt (by decide : (cfg0.win 11).nblk 1 = 1)
    have hi := index11 ⟨(β 0).val, lt_of_lt_of_eq h0 Gen.N_0.symm⟩
    refine ⟨grid0.coords ⟨(β 0).val, lt_of_lt_of_eq h0 Gen.N_0.symm⟩, fun a => ?_⟩
    match a with
    | ⟨0, _⟩ => exact hi.1
    | ⟨1, _⟩ => exact hi.2.trans (Nat.lt_one_iff.mp h1).symm

/-- The whole array. -/
theorem arr_eq : (dats m 0 c).arrAt 11 cfg0.N = G m c := by
  refine (dats m 0 c).arrAt_eq_of_covers 11 _ covers11 fun t hf y => ?_
  blk_simp
  rw [after0_11]
  idx_vars y
  refine (out_at m c t y0 y1).trans ?_
  refine congrArg (G m c) ?_
  unfold rowTok
  blk_ext! [(index11 t).1, (index11 t).2]

end Cert.KernelIdeal.Att
-- ==== Proof.RefDefs.lean ====
/- The reference's result as a composition of named stages, named one by one. -/
module

public import proofs.«01_k».proof.Proof.Gen.ReferenceIdeal.Run
public import proofs.«01_k».proof.Proof.Row

@[expose] public section

set_option maxRecDepth 16384

noncomputable section

namespace Cert.ReferenceIdeal.Att

open Cert.ReferenceIdeal Cert.ReferenceIdeal.Gen Idealize.ShloMosaic Idealize.ShloMosaic.TcCoe Idealize.SL.Sem

section Stages

variable {F : FTy → Type} [FloatOps F]

/-- The queries before the rotation, one row per head. -/
def xq (h : FVec F S65536x9728 .bf16) : FVec F S32x2048x16x64 .f32 :=
  shapeCast _ (extractStridedSlice S65536x1024 ![0, 8192] (extf .f32 h bitsLt_bf16_f32)
    slices_S65536x9728_S65536x1024_0_8192) shapeCasts_S65536x1024_S32x2048x16x64

/-- The keys before the rotation. -/
def xk (h : FVec F S65536x9728 .bf16) : FVec F S32x2048x4x64 .f32 :=
  shapeCast _ (extractStridedSlice S65536x256 ![0, 9216] (extf .f32 h bitsLt_bf16_f32)
    slices_S65536x9728_S65536x256_0_9216) shapeCasts_S65536x256_S32x2048x4x64

/-- The values. -/
def xv (h : FVec F S65536x9728 .bf16) : FVec F S32x2048x4x64 .f32 :=
  shapeCast _ (extractStridedSlice S65536x256 ![0, 9472] (extf .f32 h bitsLt_bf16_f32)
    slices_S65536x9728_S65536x256_0_9472) shapeCasts_S65536x256_S32x2048x4x64

/-- The rotated queries. -/
def rq (h : FVec F S65536x9728 .bf16) (cs : FVec F S65536x32 .f32) (sn : FVec F S65536x32 .f32) : FVec F S32x2048x16x64 .f32 :=
  concatenate S32x2048x16x64 3 [⟨S32x2048x16x32, (subf (mulf (extractStridedSlice S32x2048x16x32 ![0, 0, 0, 0] (xq
    h) slices_S32x2048x16x64_S32x2048x16x32_0_0_0_0) (broadcastInDim S32x2048x16x32 ![0, 1, 2, 3]
    bcast_S32x2048x1x32_S32x2048x16x32_0_1_2_3 (broadcastInDim S32x2048x1x32 ![0, 1, 3]
    bcast_S32x2048x32_S32x2048x1x32_0_1_3 (shapeCast _ cs shapeCasts_S65536x32_S32x2048x32)))) (mulf
    (extractStridedSlice S32x2048x16x32 ![0, 0, 0, 32] (xq h) slices_S32x2048x16x64_S32x2048x16x32_0_0_0_32)
    (broadcastInDim S32x2048x16x32 ![0, 1, 2, 3] bcast_S32x2048x1x32_S32x2048x16x32_0_1_2_3 (broadcastInDim
    S32x2048x1x32 ![0, 1, 3] bcast_S32x2048x32_S32x2048x1x32_0_1_3 (shapeCast _ sn
    shapeCasts_S65536x32_S32x2048x32)))))⟩, ⟨S32x2048x16x32, (addf (mulf (extractStridedSlice S32x2048x16x32 ![0,
    0, 0, 32] (xq h) slices_S32x2048x16x64_S32x2048x16x32_0_0_0_32) (broadcastInDim S32x2048x16x32 ![0, 1, 2, 3]
    bcast_S32x2048x1x32_S32x2048x16x32_0_1_2_3 (broadcastInDim S32x2048x1x32 ![0, 1, 3]
    bcast_S32x2048x32_S32x2048x1x32_0_1_3 (shapeCast _ cs shapeCasts_S65536x32_S32x2048x32)))) (mulf
    (extractStridedSlice S32x2048x16x32 ![0, 0, 0, 0] (xq h) slices_S32x2048x16x64_S32x2048x16x32_0_0_0_0)
    (broadcastInDim S32x2048x16x32 ![0, 1, 2, 3] bcast_S32x2048x1x32_S32x2048x16x32_0_1_2_3 (broadcastInDim
    S32x2048x1x32 ![0, 1, 3] bcast_S32x2048x32_S32x2048x1x32_0_1_3 (shapeCast _ sn
    shapeCasts_S65536x32_S32x2048x32)))))⟩] concatenates_S32x2048x16x32_S32x2048x16x32_S32x2048x16x64_d3

/-- The rotated keys. -/
def rk (h : FVec F S65536x9728 .bf16) (cs : FVec F S65536x32 .f32) (sn : FVec F S65536x32 .f32) : FVec F S32x2048x4x64 .f32 :=
  concatenate S32x2048x4x64 3 [⟨S32x2048x4x32, (subf (mulf (extractStridedSlice S32x2048x4x32 ![0, 0, 0, 0] (xk h)
    slices_S32x2048x4x64_S32x2048x4x32_0_0_0_0) (broadcastInDim S32x2048x4x32 ![0, 1, 2, 3]
    bcast_S32x2048x1x32_S32x2048x4x32_0_1_2_3 (broadcastInDim S32x2048x1x32 ![0, 1, 3]
    bcast_S32x2048x32_S32x2048x1x32_0_1_3 (shapeCast _ cs shapeCasts_S65536x32_S32x2048x32)))) (mulf
    (extractStridedSlice S32x2048x4x32 ![0, 0, 0, 32] (xk h) slices_S32x2048x4x64_S32x2048x4x32_0_0_0_32)
    (broadcastInDim S32x2048x4x32 ![0, 1, 2, 3] bcast_S32x2048x1x32_S32x2048x4x32_0_1_2_3 (broadcastInDim
    S32x2048x1x32 ![0, 1, 3] bcast_S32x2048x32_S32x2048x1x32_0_1_3 (shapeCast _ sn
    shapeCasts_S65536x32_S32x2048x32)))))⟩, ⟨S32x2048x4x32, (addf (mulf (extractStridedSlice S32x2048x4x32 ![0, 0,
    0, 32] (xk h) slices_S32x2048x4x64_S32x2048x4x32_0_0_0_32) (broadcastInDim S32x2048x4x32 ![0, 1, 2, 3]
    bcast_S32x2048x1x32_S32x2048x4x32_0_1_2_3 (broadcastInDim S32x2048x1x32 ![0, 1, 3]
    bcast_S32x2048x32_S32x2048x1x32_0_1_3 (shapeCast _ cs shapeCasts_S65536x32_S32x2048x32)))) (mulf
    (extractStridedSlice S32x2048x4x32 ![0, 0, 0, 0] (xk h) slices_S32x2048x4x64_S32x2048x4x32_0_0_0_0)
    (broadcastInDim S32x2048x4x32 ![0, 1, 2, 3] bcast_S32x2048x1x32_S32x2048x4x32_0_1_2_3 (broadcastInDim
    S32x2048x1x32 ![0, 1, 3] bcast_S32x2048x32_S32x2048x1x32_0_1_3 (shapeCast _ sn
    shapeCasts_S65536x32_S32x2048x32)))))⟩] concatenates_S32x2048x4x32_S32x2048x4x32_S32x2048x4x64_d3

/-- What a block of queries sees of `x`, the keys or the values: the block before (zeros for the first) and its own, each
of the four heads under its four query heads. -/
def band (x : FVec F S32x2048x4x64 .f32) : FVec F S32x16x256x16x64 .f32 :=
  concatenate S32x16x256x16x64 2 [⟨S32x16x128x16x64, (pad S32x16x128x16x64 ![0, 1, 0, 0, 0] ![0, 0, 0, 0, 0] ![0,
    0, 0, 0, 0] (extractStridedSlice S32x15x128x16x64 ![0, 0, 0, 0, 0] (shapeCast _ (shapeCast _ (broadcastInDim
    S32x2048x4x4x64 ![0, 1, 2, 4] bcast_S32x2048x4x64_S32x2048x4x4x64_0_1_2_4 x)
    shapeCasts_S32x2048x4x4x64_S32x2048x16x64) shapeCasts_S32x2048x16x64_S32x16x128x16x64)
    slices_S32x16x128x16x64_S32x15x128x16x64_0_0_0_0_0) (sitofp .f32 (constantI S_ 32 0#32))
    pads_S32x15x128x16x64_S32x16x128x16x64_000_100_000_000_000 h_S_)⟩, ⟨S32x16x128x16x64, (shapeCast _ (shapeCast _
    (broadcastInDim S32x2048x4x4x64 ![0, 1, 2, 4] bcast_S32x2048x4x64_S32x2048x4x4x64_0_1_2_4 x)
    shapeCasts_S32x2048x4x4x64_S32x2048x16x64) shapeCasts_S32x2048x16x64_S32x16x128x16x64)⟩]
    concatenates_S32x16x128x16x64_S32x16x128x16x64_S32x16x256x16x64_d2

/-- Which keys a query of a block may see. -/
def rmask : IVec S16x128x256 1 :=
  andi (broadcastInDim S16x128x256 ![0, 1, 2] bcast_S1x128x256_S16x128x256_0_1_2 (andi (cmpi .sge (subi
    (broadcastInDim S1x128x256 ![0, 1, 2] bcast_S1x128x1_S1x128x256_0_1_2 (addi (broadcastInDim S1x128x1 ![1]
    bcast_S128_S1x128x1_1 (iotaInDim S128 32 0)) (broadcastInDim S1x128x1 ![] bcast_S_S1x128x1 (constantI S_ 32
    128#32)))) (broadcastInDim S1x128x256 ![0, 1, 2] bcast_S1x1x256_S1x128x256_0_1_2 (broadcastInDim S1x1x256 ![2]
    bcast_S256_S1x1x256_2 (iotaInDim S256 32 0)))) (broadcastInDim S1x128x256 ![] bcast_S_S1x128x256 (constantI S_
    32 0#32))) (cmpi .slt (subi (broadcastInDim S1x128x256 ![0, 1, 2] bcast_S1x128x1_S1x128x256_0_1_2 (addi
    (broadcastInDim S1x128x1 ![1] bcast_S128_S1x128x1_1 (iotaInDim S128 32 0)) (broadcastInDim S1x128x1 ![]
    bcast_S_S1x128x1 (constantI S_ 32 128#32)))) (broadcastInDim S1x128x256 ![0, 1, 2]
    bcast_S1x1x256_S1x128x256_0_1_2 (broadcastInDim S1x1x256 ![2] bcast_S256_S1x1x256_2 (iotaInDim S256 32 0))))
    (broadcastInDim S1x128x256 ![] bcast_S_S1x128x256 (constantI S_ 32 128#32))))) (broadcastInDim S16x128x256 ![0,
    1, 2] bcast_S16x1x256_S16x128x256_0_1_2 (cmpi .sge (addi (broadcastInDim S16x1x256 ![0, 1, 2]
    bcast_S16x1x1_S16x1x256_0_1_2 (subi (muli (broadcastInDim S16x1x1 ![0] bcast_S16_S16x1x1_0 (iotaInDim S16 32
    0)) (broadcastInDim S16x1x1 ![] bcast_S_S16x1x1 (constantI S_ 32 128#32))) (broadcastInDim S16x1x1 ![]
    bcast_S_S16x1x1 (constantI S_ 32 128#32)))) (broadcastInDim S16x1x256 ![0, 1, 2] bcast_S1x1x256_S16x1x256_0_1_2
    (broadcastInDim S1x1x256 ![2] bcast_S256_S1x1x256_2 (iotaInDim S256 32 0)))) (broadcastInDim S16x1x256 ![]
    bcast_S_S16x1x256 (constantI S_ 32 0#32))))

/-- The sink of each head. -/
def rsink (sk : FVec F S16 .f32) : FVec F S1x1x16x1x1 .f32 :=
  broadcastInDim S1x1x16x1x1 ![2] bcast_S16_S1x1x16x1x1_2 sk

/-- The masked scores. -/
def scores (q : FVec F S32x2048x16x64 .f32) (k : FVec F S32x16x256x16x64 .f32) (ok : IVec S16x128x256 1) : FVec F S32x16x16x128x256 .f32 :=
  select (broadcastInDim S32x16x16x128x256 ![0, 1, 2, 3, 4] bcast_S1x16x1x128x256_S32x16x16x128x256_0_1_2_3_4
    (broadcastInDim S1x16x1x128x256 ![1, 3, 4] bcast_S16x128x256_S1x16x1x128x256_1_3_4 ok)) (mulf
    (Host.dotGeneral dot_S32x16x128x16x64_S32x16x256x16x64_S32x16x16x128x256_4_4_2_2_013_013 none (shapeCast _ q shapeCasts_S32x2048x16x64_S32x16x128x16x64) k) (broadcastInDim S32x16x16x128x256 ![]
    bcast_S_S32x16x16x128x256 (constant S_ .f32 0x3E000000#32))) (broadcastInDim S32x16x16x128x256 ![]
    bcast_S_S32x16x16x128x256 (id (constant S_ .f32 0xFF800000#32)))

/-- The largest score of a row, the sink among them. -/
def maxes (s : FVec F S32x16x16x128x256 .f32) (sk : FVec F S16 .f32) : FVec F S32x16x16x128x1 .f32 :=
  maximumf (broadcastInDim S32x16x16x128x1 ![0, 1, 2, 3] bcast_S32x16x16x128_S32x16x16x128x1_0_1_2_3 (Host.reduce
    FloatOps.maximumf s (constant S_ .f32 0xFF800000#32) reducesTo_S32x16x16x128x256_S32x16x16x128_d4
    h_S_)) (broadcastInDim S32x16x16x128x1 ![0, 1, 2, 3, 4] bcast_S1x1x16x1x1_S32x16x16x128x1_0_1_2_3_4 (rsink sk))

/-- The exponentials of the scores over the largest. -/
def exps (s : FVec F S32x16x16x128x256 .f32) (sk : FVec F S16 .f32) : FVec F S32x16x16x128x256 .f32 :=
  Host.exp (subf s (broadcastInDim S32x16x16x128x256 ![0, 1, 2, 3, 4]
    bcast_S32x16x16x128x1_S32x16x16x128x256_0_1_2_3_4 (maxes s sk)))

/-- The probabilities. -/
def probs (s : FVec F S32x16x16x128x256 .f32) (sk : FVec F S16 .f32) : FVec F S32x16x16x128x256 .f32 :=
  Host.divf (exps s sk) (broadcastInDim S32x16x16x128x256 ![0, 1, 2, 3, 4]
    bcast_S32x16x16x128x1_S32x16x16x128x256_0_1_2_3_4 (addf (broadcastInDim S32x16x16x128x1 ![0, 1, 2, 3]
    bcast_S32x16x16x128_S32x16x16x128x1_0_1_2_3 (Host.reduceAdd (exps s sk) (constant S_ .f32 0x00000000#32)
    reducesTo_S32x16x16x128x256_S32x16x16x128_d4 h_S_)) (Host.exp (subf (broadcastInDim S32x16x16x128x1 ![0, 1, 2,
    3, 4] bcast_S1x1x16x1x1_S32x16x16x128x1_0_1_2_3_4 (rsink sk)) (maxes s sk)))))

/-- The heads' outputs side by side. -/
def outs (v : FVec F S32x16x256x16x64 .f32) (p : FVec F S32x16x16x128x256 .f32) : FVec F S65536x1024 .f32 :=
  shapeCast _ (transpose S32x16x128x16x64 [0, 1, 4, 2, 3] (Host.dotGeneral
    dot_S32x16x256x16x64_S32x16x16x128x256_S32x16x16x64x128_2_4_4_3_013_012 none v p)
    transposes_S32x16x16x64x128_S32x16x128x16x64_0_1_4_2_3) shapeCasts_S32x16x128x16x64_S65536x1024

/-- The reference's result. -/
def rout (h : FVec F S65536x9728 .bf16) (cs : FVec F S65536x32 .f32) (sn : FVec F S65536x32 .f32) (sk : FVec F S16 .f32) (w : FVec F S1024x1024 .f32) : FVec F S65536x1024 .bf16 :=
  truncf .bf16 (Host.dotGeneral dot_S65536x1024_S1024x1024_S65536x1024_1_0_0_1_n_n none
    (outs (band (xv h)) (probs (scores (rq h cs sn) (band (rk h cs sn)) rmask) sk)) w)
    bitsLt_bf16_f32

/-- The reference's composed result is the stages put together. -/
theorem res_eq (m : (ℓ : Loc nD τ sig) → Buf (Elt F) ℓ) (c : Dev nD) : Value.res_main_v105 m c =
    rout (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  unfold Value.res_main_v105; rfl

end Stages

end Cert.ReferenceIdeal.Att
-- ==== Proof.Ref.lean ====
/- Each stage of the reference at an index, and the reference's result there: the row of attention of `Row`. -/
module

public import proofs.«01_k».proof.Proof.RefDefs

@[expose] public section

set_option maxRecDepth 16384

noncomputable section

namespace Cert.ReferenceIdeal.Att

open Cert.ReferenceIdeal Cert.ReferenceIdeal.Gen Idealize.ShloMosaic Idealize.ShloMosaic.TcCoe Idealize.SL.Sem

theorem rq_at (h : FVec Ideal S65536x9728 .bf16) (cs sn : FVec Ideal S65536x32 .f32) (b : Fin 32) (s : Fin 2048)
    (n : Fin 16) (d : Fin 64) : rq h cs sn (ix4 b s n d) =
      Att.ropeAt (fun d => h (ix2 ⟨b * 2048 + s, by omega⟩ ⟨8192 + (n * 64 + d), by omega⟩))
        (fun d => cs (ix2 ⟨b * 2048 + s, by omega⟩ d)) (fun d => sn (ix2 ⟨b * 2048 + s, by omega⟩ d)) d := by
  pointwise [rq, xq, Att.ropeAt]
  split
  · rfl
  · rename_i hd
    have e : (⟨32 + (d.val - 32), by omega⟩ : Fin 64) = d := Fin.ext (by show 32 + (d.val - 32) = d.val; omega)
    simp only [show 32 + (d.val - 32) = d.val by omega]

theorem rk_at (h : FVec Ideal S65536x9728 .bf16) (cs sn : FVec Ideal S65536x32 .f32) (b : Fin 32) (s : Fin 2048)
    (n : Fin 4) (d : Fin 64) : rk h cs sn (ix4 b s n d) =
      Att.ropeAt (fun d => h (ix2 ⟨b * 2048 + s, by omega⟩ ⟨9216 + (n * 64 + d), by omega⟩))
        (fun d => cs (ix2 ⟨b * 2048 + s, by omega⟩ d)) (fun d => sn (ix2 ⟨b * 2048 + s, by omega⟩ d)) d := by
  pointwise [rk, xk, Att.ropeAt]
  split
  · rfl
  · simp only [show 32 + (d.val - 32) = d.val by omega]

theorem xv_at (h : FVec Ideal S65536x9728 .bf16) (b : Fin 32) (s : Fin 2048) (n : Fin 4) (d : Fin 64) :
    xv h (ix4 b s n d) = h (ix2 ⟨b * 2048 + s, by omega⟩ ⟨9472 + (n * 64 + d), by omega⟩) := by
  pointwise [xv]

theorem rmask_at (s : Fin 16) (r : Fin 128) (j : Fin 256) : rmask (ix3 s r j) = Att.okAt s r j := by
  pointwise [rmask, Att.okAt]

/-- The last 128 keys of a block are its own. -/
theorem band_own (x : FVec Ideal S32x2048x4x64 .f32) (b : Fin 32) (s : Fin 16) (j : Fin 256) (n : Fin 16) (d : Fin 64)
    (hj : ¬ j.val < 128) :
    band x (ix5 b s j n d) = x (ix4 b ⟨s * 128 + (j - 128), by omega⟩ ⟨n / 4, by omega⟩ d) := by
  pointwise [band]
  rw [dif_neg hj]

/-- The first 128 are those of the block before. -/
theorem band_before (x : FVec Ideal S32x2048x4x64 .f32) (b : Fin 32) (s : Fin 16) (j : Fin 256) (n : Fin 16) (d : Fin 64)
    (hj : j.val < 128) (hs : s.val ≠ 0) :
    band x (ix5 b s j n d) = x (ix4 b ⟨(s - 1) * 128 + j, by omega⟩ ⟨n / 4, by omega⟩ d) := by
  pointwise [band]
  rw [dif_pos hj, dif_pos (by omega)]

/-- The first block's are zeros. -/
theorem band_first (x : FVec Ideal S32x2048x4x64 .f32) (b : Fin 32) (s : Fin 16) (j : Fin 256) (n : Fin 16) (d : Fin 64)
    (hj : j.val < 128) (hs : s.val = 0) : band x (ix5 b s j n d) = 0 := by
  pointwise [band]
  rw [dif_pos hj, dif_neg (by omega)]
  simp [FloatOps.sitofp]

theorem neg_inf : Ideal.ofBits .f32 0xFF800000#32 = ⊥ := by simp [Ideal.ofBits, Ideal.ieee]

theorem scores_at (q : FVec Ideal S32x2048x16x64 .f32) (k : FVec Ideal S32x16x256x16x64 .f32) (ok : IVec S16x128x256 1)
    (b : Fin 32) (s n : Fin 16) (r : Fin 128) (j : Fin 256) : scores q k ok (ix5 b s n r j) =
      Att.scoreAt (fun d => q (ix4 b ⟨s * 128 + r, by omega⟩ n d)) (fun j d => k (ix5 b s j n d))
        (fun j => ok (ix3 s r j)) j := by
  pointwise [scores, Att.scoreAt]
  exact congrArg _ neg_inf

theorem maxReduce_at (s : FVec Ideal S32x16x16x128x256 .f32) (z : FVec Ideal S_ .f32) (b : Fin 32) (n h : Fin 16)
    (r : Fin 128) : Host.reduce FloatOps.maximumf s z reducesTo_S32x16x16x128x256_S32x16x16x128_d4 h_S_ (ix4 b n h r) =
      Finset.univ.fold max (z (Shape.Idx.first h_S_)) fun k : Fin 256 => s (ix5 b n h r k) := by
  simp only [pointwise]

theorem maxCol_at (y : FVec Ideal S32x16x16x128 .f32) (sk : FVec Ideal S16 .f32) (b : Fin 32) (n h : Fin 16) (r : Fin 128) :
    maximumf (broadcastInDim S32x16x16x128x1 ![0, 1, 2, 3] bcast_S32x16x16x128_S32x16x16x128x1_0_1_2_3 y)
      (broadcastInDim S32x16x16x128x1 ![0, 1, 2, 3, 4] bcast_S1x1x16x1x1_S32x16x16x128x1_0_1_2_3_4 (rsink sk))
      (ix5 b n h r 0) = max (y (ix4 b n h r)) (sk (ix1 h)) := by
  pointwise [rsink]

theorem maxes_at (s : FVec Ideal S32x16x16x128x256 .f32) (sk : FVec Ideal S16 .f32) (b : Fin 32) (n h : Fin 16)
    (r : Fin 128) : maxes s sk (ix5 b n h r 0) = Att.rowMax (fun k => s (ix5 b n h r k)) (sk (ix1 h)) := by
  unfold maxes
  rw [maxCol_at, maxReduce_at]
  exact congrArg (fun z => max (Finset.univ.fold max z _) _) neg_inf

theorem probs_at (s : FVec Ideal S32x16x16x128x256 .f32) (sk : FVec Ideal S16 .f32) (b : Fin 32) (n h : Fin 16)
    (r : Fin 128) (j : Fin 256) : probs s sk (ix5 b n h r j) =
      Ideal.div (Ideal.exp (s (ix5 b n h r j) - Att.rowMax (fun k => s (ix5 b n h r k)) (sk (ix1 h))))
        (Att.rowDen (fun k => s (ix5 b n h r k)) (sk (ix1 h))) := by
  have e := maxes_at s sk b n h r
  generalize hM : maxes s sk = M at e
  pointwise [probs, exps, rsink]
  simp only [hM, e, Att.rowDen]

theorem outs_at (v : FVec Ideal S32x16x256x16x64 .f32) (p : FVec Ideal S32x16x16x128x256 .f32) (t : Fin 65536)
    (c : Fin 1024) : outs v p (ix2 t c) =
      ∑ x, v (ix5 ⟨t / 2048, by omega⟩ ⟨t / 128 % 16, by omega⟩ x ⟨c / 64, by omega⟩ ⟨c % 64, by omega⟩) *
        p (ix5 ⟨t / 2048, by omega⟩ ⟨t / 128 % 16, by omega⟩ ⟨c / 64, by omega⟩ ⟨t % 128, by omega⟩ x) := by
  pointwise [outs]

section Token

variable (t : Fin 65536)

private theorem tok_own : (⟨t / 2048 * 2048 + (t / 128 % 16 * 128 + t % 128), by omega⟩ : Fin 65536) = t :=
  Fin.ext (by show t.val / 2048 * 2048 + (t.val / 128 % 16 * 128 + t.val % 128) = t.val; omega)

private theorem tok_key (j : Fin 256) (hj : ¬ j.val < 128) :
    (⟨t / 2048 * 2048 + (t / 128 % 16 * 128 + (j - 128)), by omega⟩ : Fin 65536) = Att.keyTok t j := by
  rw [Att.keyTok, dif_neg hj]
  exact Fin.ext (by show t.val / 2048 * 2048 + (t.val / 128 % 16 * 128 + (j.val - 128)) = t.val / 128 * 128 + (j.val - 128); omega)

private theorem tok_key_before (j : Fin 256) (hj : j.val < 128) (hs : t.val / 128 % 16 ≠ 0) :
    (⟨t / 2048 * 2048 + ((t / 128 % 16 - 1) * 128 + j), by omega⟩ : Fin 65536) = Att.keyTok t j := by
  rw [Att.keyTok, dif_pos hj, if_neg hs]
  exact Fin.ext (by show t.val / 2048 * 2048 + ((t.val / 128 % 16 - 1) * 128 + j.val) = t.val / 128 * 128 - 128 + j.val; omega)

/-- A band at a token's block, where the block is its own or the one before: the array at the key's token. -/
theorem band_key (x : FVec Ideal S32x2048x4x64 .f32) (X : Fin 65536 → Fin 4 → Fin 64 → EReal)
    (hx : ∀ (b : Fin 32) (s : Fin 2048) n d, x (ix4 b s n d) = X ⟨b * 2048 + s, by omega⟩ n d)
    (j : Fin 256) (n : Fin 16) (d : Fin 64) (hs : j.val < 128 → t.val / 128 % 16 ≠ 0) :
    band x (ix5 ⟨t / 2048, by omega⟩ ⟨t / 128 % 16, by omega⟩ j n d) =
      X (Att.keyTok t j) ⟨n / 4, by omega⟩ d := by
  by_cases hj : j.val < 128
  · rw [band_before _ _ _ _ _ _ hj (hs hj), hx]
    exact congrArg (fun y => X y _ d) (tok_key_before t j hj (hs hj))
  · rw [band_own _ _ _ _ _ _ hj, hx]
    exact congrArg (fun y => X y _ d) (tok_key t j hj)

end Token

/-- The attention before its projection, at a token and a column. -/
theorem attn_at (h : FVec Ideal S65536x9728 .bf16) (cs sn : FVec Ideal S65536x32 .f32) (sk : FVec Ideal S16 .f32)
    (t : Fin 65536) (c : Fin 1024) :
    outs (band (xv h)) (probs (scores (rq h cs sn) (band (rk h cs sn)) rmask) sk) (ix2 t c) =
      Att.attnAt (fun t c => h (ix2 t c)) (fun t d => cs (ix2 t d)) (fun t d => sn (ix2 t d)) (fun n => sk (ix1 n)) t
        ⟨c / 64, by omega⟩ ⟨c % 64, by omega⟩ := by
  have hsc : (fun k => scores (rq h cs sn) (band (rk h cs sn)) rmask
      (ix5 ⟨t / 2048, by omega⟩ ⟨t / 128 % 16, by omega⟩ ⟨c / 64, by omega⟩ ⟨t % 128, by omega⟩ k)) =
      Att.scoreAt (Att.ropeAt (Att.qHead (fun t c => h (ix2 t c)) t ⟨c / 64, by omega⟩) (fun d => cs (ix2 t d)) (fun d => sn (ix2 t d)))
        (fun j => Att.ropeAt (Att.kHead (fun t c => h (ix2 t c)) (Att.keyTok t j) ⟨c / 64, by omega⟩)
          (fun d => cs (ix2 (Att.keyTok t j) d)) (fun d => sn (ix2 (Att.keyTok t j) d)))
        (Att.okAt (Att.blkOf t) (Att.rowOf t)) := by
    funext k
    rw [scores_at]
    refine congrFun (Att.scoreAt_congr ?_ ?_ ?_) k
    · funext d
      rw [rq_at]
      exact congrArg (fun u => Att.ropeAt (fun d => h (ix2 u ⟨8192 + (c / 64 * 64 + d), by omega⟩)) (fun d => cs (ix2 u d))
        (fun d => sn (ix2 u d)) d) (tok_own t)
    · funext j; rw [rmask_at]; rfl
    · intro j hok
      funext d
      rw [band_key t _ (fun u n d => Att.ropeAt (fun d => h (ix2 u ⟨9216 + (n * 64 + d), by omega⟩)) (fun d => cs (ix2 u d))
        (fun d => sn (ix2 u d)) d) (fun b s n d => rk_at h cs sn b s n d)]
      · rfl
      · intro hj hs
        rw [rmask_at, show (⟨t / 128 % 16, by omega⟩ : Fin 16) = 0 from Fin.ext hs, Att.okAt_first _ ⟨j, hj⟩] at hok
        exact absurd hok (by decide)
  rw [outs_at]
  have hp := fun x => probs_at (scores (rq h cs sn) (band (rk h cs sn)) rmask) sk ⟨t / 2048, by omega⟩ ⟨t / 128 % 16, by omega⟩
    ⟨c / 64, by omega⟩ ⟨t % 128, by omega⟩ x
  rw [hsc] at hp
  have hp' := fun x => (hp x).trans (by rw [congrFun hsc x])
  simp only [hp']
  refine Eq.trans (b := Att.rowOut _ _ fun j => band (xv h) (ix5 ⟨t / 2048, by omega⟩ ⟨t / 128 % 16, by omega⟩ j ⟨c / 64, by omega⟩ ⟨c % 64, by omega⟩))
    (Finset.sum_congr rfl fun j _ => mul_comm _ _) ?_
  unfold Att.attnAt
  have hX := band_key t (xv h) (fun u n d => h (ix2 u ⟨9472 + (n * 64 + d), by omega⟩)) (fun b s n d => xv_at h b s n d)
  by_cases hs : t.val / 128 % 16 = 0
  · refine (Att.rowOut_first_masked _ _ _ _ ?_ ?_ ?_ ?_).symm
    · intro i
      unfold Att.scoreAt
      rw [show Att.blkOf t = 0 from Fin.ext hs, Att.okAt_first _ i]
      simp [Scalar.select]
    · intro i
      refine congrArg (fun y => Att.vHead _ y _ _) ?_
      simp only [Att.keyTok]
      rw [dif_pos (by omega), if_pos hs, dif_neg (by omega)]
      exact Fin.ext (by show t.val / 128 * 128 + i.val = t.val / 128 * 128 + (128 + i.val - 128); omega)
    · intro i
      exact band_first _ _ _ _ _ _ (by show i.val < 128; omega) hs
    · intro i
      rw [hX _ _ _ (fun hj => absurd hj (by show ¬ 128 + i.val < 128; omega))]
      rfl
  · refine congrArg _ (funext fun j => ?_)
    rw [hX _ _ _ (fun _ => hs)]
    rfl

/-- The reference's result: the attention's columns against the projection's. -/
theorem rout_at (h : FVec Ideal S65536x9728 .bf16) (cs sn : FVec Ideal S65536x32 .f32) (sk : FVec Ideal S16 .f32)
    (w : FVec Ideal S1024x1024 .f32) (t : Fin 65536) (c : Fin 1024) : rout h cs sn sk w (ix2 t c) =
      ∑ x : Fin 1024, Att.attnAt (fun t c => h (ix2 t c)) (fun t d => cs (ix2 t d)) (fun t d => sn (ix2 t d))
        (fun n => sk (ix1 n)) t ⟨x / 64, by omega⟩ ⟨x % 64, by omega⟩ * w (ix2 x c) := by
  have e := fun x => attn_at h cs sn sk t x
  unfold rout
  generalize outs (band (xv h)) (probs (scores (rq h cs sn) (band (rk h cs sn)) rmask) sk) = O at e
  pointwise []
  exact Finset.sum_congr rfl fun x _ => by rw [e x]

end Cert.ReferenceIdeal.Att
-- ==== Proof.lean ====
/- The claims of proofs.«01_k».proof.Defs, proved.  Frames: the generated ones, and for the input projection those of
   InBody.lean and InBodyBits.lean.  Values: the attention's array (Point.lean) against its reference's result (Ref.lean),
   the input projection's two arrays (InValue.lean) against its reference's two results (InRef.lean), the merge's two
   arrays (MergeValue.lean) against its reference's (MergeRef.lean), the rotary tables (RopeValue.lean) against their
   reference's (RopeRef.lean), and the convolution module's array (ConfValue.lean) against its reference's (ConfRef.lean).  The state-space mixer has its frames only. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Value
public import proofs.«01_k».proof.Proof.Gen.ReferenceIdeal.Run
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeReferenceIdeal
public import proofs.«01_k».proof.Proof.Gen.RopeReferenceIdeal.Run
public import proofs.«01_k».proof.Proof.Gen.Conf
public import proofs.«01_k».proof.Proof.Gen.Conf.Skeleton
public import proofs.«01_k».proof.Proof.Gen.Conf.Launch
public import proofs.«01_k».proof.Proof.Gen.Conf.Points
public import proofs.«01_k».proof.Proof.Gen.Conf.Frame
public import proofs.«01_k».proof.Proof.Gen.ConfIdeal
public import proofs.«01_k».proof.Proof.Gen.ConfIdeal.Skeleton
public import proofs.«01_k».proof.Proof.Gen.ConfIdeal.Launch
public import proofs.«01_k».proof.Proof.Gen.ConfIdeal.Points
public import proofs.«01_k».proof.Proof.Gen.ConfIdeal.Frame
public import proofs.«01_k».proof.Proof.Gen.ConfIdeal.Value
public import proofs.«01_k».proof.Proof.Gen.ConfReferenceIdeal
public import proofs.«01_k».proof.Proof.Gen.ConfReferenceIdeal.Run
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdReferenceIdeal
public import proofs.«01_k».proof.Proof.Gen.SsdReferenceIdeal.Run
public import proofs.«01_k».proof.Proof.InBody
public import proofs.«01_k».proof.Proof.InBodyBits
public import proofs.«01_k».proof.Proof.InRef
public import proofs.«01_k».proof.Proof.InValue
public import proofs.«01_k».proof.Proof.MergeRef
public import proofs.«01_k».proof.Proof.MergeValue
public import proofs.«01_k».proof.Proof.RopeRef
public import proofs.«01_k».proof.Proof.RopeValue
public import proofs.«01_k».proof.Proof.ConfRef
public import proofs.«01_k».proof.Proof.ConfValue
public import proofs.«01_k».proof.Proof.Point
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The reference's run leaves its arguments and declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From arguments that agree, the reference's result is the kernel's. -/
theorem attention_eq (m : (ℓ : Loc Cert.KernelIdeal.nD Cert.KernelIdeal.τ Cert.KernelIdeal.sig) → Buf (Elt Ideal) ℓ)
    (c : Dev Cert.KernelIdeal.nD) : Cert.ReferenceIdeal.Att.rout
      (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) = Cert.KernelIdeal.Att.G m c := by
  funext i
  idx_vars i
  exact Cert.ReferenceIdeal.Att.rout_at _ _ _ _ _ i0 i1

/-- The attention: both programs end at the same array. -/
theorem algebraic_attention : Cert.algebraic_KernelIdeal_ReferenceIdeal := by
  intro m ρ m' ρ' _ hag
  refine ⟨fun c => Cert.KernelIdeal.Att.G m c, ?_, ?_⟩
  · exact (θ_run Cert.KernelIdeal.defs _ _).mono (fun _ h c => ⟨(h c).1.trans (Cert.KernelIdeal.Att.arr_eq m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Att.res_eq, (hag c).1, (hag c).2.1, (hag c).2.2.1, (hag c).2.2.2.1, (hag c).2.2.2.2]
    exact attention_eq m c

/-- The projection's reference leaves its arguments and declares no semaphore. -/
theorem frame_projection_reference : Cert.quiescent_InProjReferenceIdeal := fun m ρ _ =>
  (θ_run Cert.InProjReferenceIdeal.defs _ _).mono (fun r h => ⟨fun c => (h c).2.2,
      Idealize.ShloMosaic.sem_eq_zero_of_no_sems (by decide) r.2⟩)
    (Cert.InProjReferenceIdeal.Value.run (F := Ideal) m ρ)

/-- The projection's first result is the reference's. -/
theorem projection_eq (m : (ℓ : Loc Cert.InProjIdeal.nD Cert.InProjIdeal.τ Cert.InProjIdeal.sig) → Buf (Elt Ideal) ℓ)
    (c : Dev Cert.InProjIdeal.nD) : Cert.InProjReferenceIdeal.Value.mainRes (Cert.InProjReferenceIdeal.Value.prod
      (m ((c.tc : Thread _ _).loc Cert.InProjIdeal.main_arg0)) (m ((c.tc : Thread _ _).loc Cert.InProjIdeal.main_arg1))) =
      Cert.InProjIdeal.Body.mainArr m c := by
  funext i
  idx_vars i
  rw [Cert.InProjReferenceIdeal.Value.mainRes_at, Cert.InProjReferenceIdeal.Value.prod_at]
  rfl

/-- The projection's second result is the reference's. -/
theorem steps_eq (m : (ℓ : Loc Cert.InProjIdeal.nD Cert.InProjIdeal.τ Cert.InProjIdeal.sig) → Buf (Elt Ideal) ℓ)
    (c : Dev Cert.InProjIdeal.nD) : Cert.InProjReferenceIdeal.Value.stepRes (Cert.InProjReferenceIdeal.Value.prod
      (m ((c.tc : Thread _ _).loc Cert.InProjIdeal.main_arg0)) (m ((c.tc : Thread _ _).loc Cert.InProjIdeal.main_arg1))) =
      Cert.InProjIdeal.Body.stepArr m c := by
  funext i
  idx_vars i
  rw [Cert.InProjReferenceIdeal.Value.stepRes_at]
  simp only [Cert.InProjReferenceIdeal.Value.prod_at]
  rfl

/-- The input projection: both programs end at the same two arrays. -/
theorem algebraic_projection : Cert.algebraic_InProjIdeal_InProjReferenceIdeal := by
  intro m ρ m' ρ' _ hag
  refine ⟨fun c => Cert.InProjIdeal.Body.mainArr m c, fun c => Cert.InProjIdeal.Body.stepArr m c,
    Cert.InProjIdeal.Body.run_results m ρ, ?_⟩
  refine (θ_run Cert.InProjReferenceIdeal.defs _ _).mono (fun _ h c => ⟨(h c).1.trans ?_, (h c).2.1.trans ?_, (h c).2.2⟩)
    (Cert.InProjReferenceIdeal.Value.run (F := Ideal) m' ρ')
  · rw [(hag c).1, (hag c).2]
    exact projection_eq m c
  · rw [(hag c).1, (hag c).2]
    exact steps_eq m c

/-- The merge's reference leaves its arguments and declares no semaphore. -/
theorem frame_merge_reference : Cert.quiescent_MergeReferenceIdeal := fun m ρ _ =>
  (θ_run Cert.MergeReferenceIdeal.defs _ _).mono (fun r h => ⟨fun c => (h c).2.2,
      Idealize.ShloMosaic.sem_eq_zero_of_no_sems (by decide) r.2⟩)
    (Cert.MergeReferenceIdeal.Value.run (F := Ideal) m ρ)

/-- The reference's normalized tokens, of the kernel's arguments. -/
def mergeTokens (m : (ℓ : Loc Cert.MergeIdeal.nD Cert.MergeIdeal.τ Cert.MergeIdeal.sig) → Buf (Elt Ideal) ℓ)
    (c : Dev Cert.MergeIdeal.nD) : FVec Ideal Cert.MergeReferenceIdeal.S65536x1024 .f32 :=
  Cert.MergeReferenceIdeal.Value.normed (Cert.MergeReferenceIdeal.Value.sums (m ((c.tc : Thread _ _).loc Cert.MergeIdeal.main_arg5))
      (Cert.MergeReferenceIdeal.Value.mix (Cert.MergeReferenceIdeal.Value.gates (m ((c.tc : Thread _ _).loc Cert.MergeIdeal.main_arg0)) (m ((c.tc : Thread _ _).loc Cert.MergeIdeal.main_arg1)))
        (m ((c.tc : Thread _ _).loc Cert.MergeIdeal.main_arg2)) (m ((c.tc : Thread _ _).loc Cert.MergeIdeal.main_arg3)) (m ((c.tc : Thread _ _).loc Cert.MergeIdeal.main_arg4))) (m ((c.tc : Thread _ _).loc Cert.MergeIdeal.main_arg6)))
      (m ((c.tc : Thread _ _).loc Cert.MergeIdeal.main_arg7)) (m ((c.tc : Thread _ _).loc Cert.MergeIdeal.main_arg8))

/-- A lane of the reference's normalized tokens is the kernel's. -/
theorem tokens_at (m : (ℓ : Loc Cert.MergeIdeal.nD Cert.MergeIdeal.τ Cert.MergeIdeal.sig) → Buf (Elt Ideal) ℓ)
    (c : Dev Cert.MergeIdeal.nD) (u : Fin 65536) (j : Fin 1024) :
    mergeTokens m c (ix2 u j) = Cert.MergeIdeal.Row.normArg m c u j := by
  unfold mergeTokens
  rw [Cert.MergeReferenceIdeal.Value.normed_at]
  simp only [Cert.MergeReferenceIdeal.Value.sums_at, Cert.MergeReferenceIdeal.Value.mix_at, Cert.MergeReferenceIdeal.Value.gates_at]
  rfl

/-- The merge's first result is the reference's. -/
theorem tokens_eq (m : (ℓ : Loc Cert.MergeIdeal.nD Cert.MergeIdeal.τ Cert.MergeIdeal.sig) → Buf (Elt Ideal) ℓ)
    (c : Dev Cert.MergeIdeal.nD) : mergeTokens m c = Cert.MergeIdeal.Row.tokenArr m c := by
  funext i
  idx_vars i
  exact tokens_at m c i0 i1

/-- The merge's second result is the reference's. -/
theorem logits_eq (m : (ℓ : Loc Cert.MergeIdeal.nD Cert.MergeIdeal.τ Cert.MergeIdeal.sig) → Buf (Elt Ideal) ℓ)
    (c : Dev Cert.MergeIdeal.nD) : Cert.MergeReferenceIdeal.Value.logits (mergeTokens m c)
      (m ((c.tc : Thread _ _).loc Cert.MergeIdeal.main_arg9)) (m ((c.tc : Thread _ _).loc Cert.MergeIdeal.main_arg10))
      (m ((c.tc : Thread _ _).loc Cert.MergeIdeal.main_arg11)) (m ((c.tc : Thread _ _).loc Cert.MergeIdeal.main_arg12)) =
      Cert.MergeIdeal.Row.logitArr m c := by
  funext i
  idx_vars i
  rw [Cert.MergeReferenceIdeal.Value.logits_at]
  simp only [tokens_at]
  rfl

/-- The merge: both programs end at the same two arrays. -/
theorem algebraic_merge : Cert.algebraic_MergeIdeal_MergeReferenceIdeal := by
  intro m ρ m' ρ' _ hag
  have hn : ∀ c, Cert.MergeReferenceIdeal.Value.argNorm m' c = mergeTokens m c := fun c => by
    unfold Cert.MergeReferenceIdeal.Value.argNorm Cert.MergeReferenceIdeal.Value.argSums
    rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1]
    rfl
  refine ⟨fun c => Cert.MergeIdeal.Row.tokenArr m c, fun c => Cert.MergeIdeal.Row.logitArr m c, ?_, ?_⟩
  · exact (θ_run Cert.MergeIdeal.defs _ _).mono (fun _ h c => ⟨(h c).1.trans (Cert.MergeIdeal.Row.token_arr m c),
      (h c).2.1.trans (Cert.MergeIdeal.Row.logit_arr m c), (h c).2.2⟩) (Cert.MergeIdeal.Value.run_blocks m ρ)
  · refine (θ_run Cert.MergeReferenceIdeal.defs _ _).mono (fun _ h c => ⟨(h c).1.trans ?_, (h c).2.1.trans ?_, (h c).2.2⟩)
      (Cert.MergeReferenceIdeal.Value.run (F := Ideal) m' ρ')
    · rw [Cert.MergeReferenceIdeal.Value.token_eq, hn]
      exact tokens_eq m c
    · rw [Cert.MergeReferenceIdeal.Value.logit_eq, hn, (hag c).2.2.2.2.2.2.2.2.2.1, (hag c).2.2.2.2.2.2.2.2.2.2.1, (hag c).2.2.2.2.2.2.2.2.2.2.2.1, (hag c).2.2.2.2.2.2.2.2.2.2.2.2]
      exact logits_eq m c

/-- The rotary tables' reference leaves its argument and declares no semaphore. -/
theorem frame_rope_reference : Cert.quiescent_RopeReferenceIdeal := fun m ρ _ =>
  (θ_run Cert.RopeReferenceIdeal.defs _ _).mono (fun r h => ⟨fun c => (h c).2.2,
      Idealize.ShloMosaic.sem_eq_zero_of_no_sems (by decide) r.2⟩)
    (Cert.RopeReferenceIdeal.Value.run (F := Ideal) m ρ)

/-- The cosine table is the reference's. -/
theorem cos_eq (m : (ℓ : Loc Cert.RopeIdeal.nD Cert.RopeIdeal.τ Cert.RopeIdeal.sig) → Buf (Elt Ideal) ℓ)
    (c : Dev Cert.RopeIdeal.nD) : Cert.RopeReferenceIdeal.Value.cosTable
      (m ((c.tc : Thread _ _).loc Cert.RopeIdeal.main_arg0)) = Cert.RopeIdeal.Row.cosArr m c := by
  funext i
  idx_vars i
  exact Cert.RopeReferenceIdeal.Value.cosTable_at _ i0 i1

/-- The sine table is the reference's. -/
theorem sin_eq (m : (ℓ : Loc Cert.RopeIdeal.nD Cert.RopeIdeal.τ Cert.RopeIdeal.sig) → Buf (Elt Ideal) ℓ)
    (c : Dev Cert.RopeIdeal.nD) : Cert.RopeReferenceIdeal.Value.sinTable
      (m ((c.tc : Thread _ _).loc Cert.RopeIdeal.main_arg0)) = Cert.RopeIdeal.Row.sinArr m c := by
  funext i
  idx_vars i
  exact Cert.RopeReferenceIdeal.Value.sinTable_at _ i0 i1

/-- The rotary tables: both programs end at the same two arrays. -/
theorem algebraic_rope : Cert.algebraic_RopeIdeal_RopeReferenceIdeal := by
  intro m ρ m' ρ' _ hag
  refine ⟨fun c => Cert.RopeIdeal.Row.cosArr m c, fun c => Cert.RopeIdeal.Row.sinArr m c, Cert.RopeIdeal.Row.run_results m ρ, ?_⟩
  refine (θ_run Cert.RopeReferenceIdeal.defs _ _).mono (fun _ h c => ⟨(h c).1.trans ?_, (h c).2.1.trans ?_, (h c).2.2⟩)
    (Cert.RopeReferenceIdeal.Value.run_tables (F := Ideal) m' ρ')
  · rw [hag c]
    exact cos_eq m c
  · rw [hag c]
    exact sin_eq m c

/-- The convolution module's reference leaves its arguments and declares no semaphore. -/
theorem frame_conf_reference : Cert.quiescent_ConfReferenceIdeal := fun m ρ _ =>
  (θ_run Cert.ConfReferenceIdeal.defs _ _).mono (fun r h => ⟨fun c => (h c).2,
      Idealize.ShloMosaic.sem_eq_zero_of_no_sems (by decide) r.2⟩)
    (Cert.ConfReferenceIdeal.Value.run (F := Ideal) m ρ)

/-- The state-space mixer's reference leaves its arguments and declares no semaphore. -/
theorem frame_ssd_reference : Cert.quiescent_SsdReferenceIdeal := fun m ρ _ =>
  (θ_run Cert.SsdReferenceIdeal.defs _ _).mono (fun r h => ⟨fun c => (h c).2,
      Idealize.ShloMosaic.sem_eq_zero_of_no_sems (by decide) r.2⟩)
    (Cert.SsdReferenceIdeal.Value.run (F := Ideal) m ρ)

/-- The convolution module: both programs end at the same array. -/
theorem algebraic_conf : Cert.algebraic_ConfIdeal_ConfReferenceIdeal := by
  intro m ρ m' ρ' _ hag
  refine ⟨fun c => Cert.ConfIdeal.Con.outArr m c, ?_, ?_⟩
  · exact (θ_run Cert.ConfIdeal.defs _ _).mono (fun _ h c => ⟨(h c).1.trans (Cert.ConfIdeal.Con.out_arr m c), (h c).2⟩)
      (Cert.ConfIdeal.Value.run_blocks m ρ)
  · refine (θ_run Cert.ConfReferenceIdeal.defs _ _).mono (fun _ h c => ⟨(h c).1.trans ?_, (h c).2⟩)
      (Cert.ConfReferenceIdeal.Value.run (F := Ideal) m' ρ')
    have e0 : Cert.ConfReferenceIdeal.Value.hIn (Idealize.ShloMosaic.StableHlo.launchContents m' c) = Cert.ConfIdeal.Con.hArg m c :=
      funext fun u => funext fun j => congrFun (hag c).1 (ix2 u j)
    have e1 : Cert.ConfReferenceIdeal.Value.wIn (Idealize.ShloMosaic.StableHlo.launchContents m' c) = Cert.ConfIdeal.Con.wArg m c :=
      funext fun u => funext fun j => congrFun (hag c).2.1 (ix2 u j)
    have e2 : Cert.ConfReferenceIdeal.Value.bIn (Idealize.ShloMosaic.StableHlo.launchContents m' c) = Cert.ConfIdeal.Con.bArg m c :=
      funext fun j => congrFun (hag c).2.2.1 (ix1 j)
    have e3 : Cert.ConfReferenceIdeal.Value.gIn (Idealize.ShloMosaic.StableHlo.launchContents m' c) = Cert.ConfIdeal.Con.gArg m c :=
      funext fun j => congrFun (hag c).2.2.2.1 (ix1 j)
    have e4 : Cert.ConfReferenceIdeal.Value.sIn (Idealize.ShloMosaic.StableHlo.launchContents m' c) = Cert.ConfIdeal.Con.sArg m c :=
      funext fun j => congrFun (hag c).2.2.2.2.1 (ix1 j)
    have e5 : Cert.ConfReferenceIdeal.Value.pIn (Idealize.ShloMosaic.StableHlo.launchContents m' c) = Cert.ConfIdeal.Con.pArg m c :=
      funext fun u => funext fun j => congrFun (hag c).2.2.2.2.2 (ix2 u j)
    refine Eq.trans (b := Cert.ConfReferenceIdeal.Value.out (Idealize.ShloMosaic.StableHlo.launchContents m' c)) rfl (funext fun i => ?_)
    idx_vars i
    rw [Cert.ConfReferenceIdeal.Value.out_at, e0, e1, e2, e3, e4, e5]
    rfl

theorem claim : Cert.Claim := ⟨Cert.Kernel.Gen.facts, Cert.KernelIdeal.Gen.facts, Cert.ReferenceIdeal.Gen.facts,
  Cert.InProj.Gen.facts, Cert.InProjIdeal.Gen.facts, Cert.InProjReferenceIdeal.Gen.facts,
  Cert.Merge.Gen.facts, Cert.MergeIdeal.Gen.facts, Cert.MergeReferenceIdeal.Gen.facts,
  Cert.Rope.Gen.facts, Cert.RopeIdeal.Gen.facts, Cert.RopeReferenceIdeal.Gen.facts,
  Cert.Conf.Gen.facts, Cert.ConfIdeal.Gen.facts, Cert.ConfReferenceIdeal.Gen.facts,
  Cert.Ssd.Gen.facts, Cert.SsdIdeal.Gen.facts, Cert.SsdReferenceIdeal.Gen.facts,
  fun m ρ _ => Cert.Kernel.Gen.frame m ρ, fun m ρ _ => Cert.KernelIdeal.Gen.frame m ρ, frame_reference,
  fun m ρ _ => Cert.InProj.Body.frame m ρ, fun m ρ _ => Cert.InProjIdeal.Body.frame m ρ, frame_projection_reference,
  fun m ρ _ => Cert.Merge.Gen.frame m ρ, fun m ρ _ => Cert.MergeIdeal.Gen.frame m ρ, frame_merge_reference,
  fun m ρ _ => Cert.Rope.Gen.frame m ρ, fun m ρ _ => Cert.RopeIdeal.Gen.frame m ρ, frame_rope_reference,
  fun m ρ _ => Cert.Conf.Gen.frame m ρ, fun m ρ _ => Cert.ConfIdeal.Gen.frame m ρ, frame_conf_reference,
  fun m ρ _ => Cert.Ssd.Gen.frame m ρ, fun m ρ _ => Cert.SsdIdeal.Gen.frame m ρ, frame_ssd_reference,
  trivial, algebraic_attention, trivial, algebraic_projection, trivial, algebraic_merge,
  trivial, algebraic_rope, trivial, algebraic_conf, trivial⟩

end Cert.Proof

end
